-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S32768x128 : Shape := ⟨2, ![32768, 128]⟩
abbrev S17 : Shape := ⟨1, ![17]⟩
abbrev S128x128 : Shape := ⟨2, ![128, 128]⟩
abbrev S128 : Shape := ⟨1, ![128]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S1_16 : S17.Slices ![16] S1
  slices_S17_S16_0 : S17.Slices ![0] S16
  slices_S17_S16_1 : S17.Slices ![1] S16
  reducesTo_S16_S_d0 : S16.ReducesTo [0] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v15 : IVec S_ 1) (main_v17 : IVec S128 1) : IVec S_ 1 :=
  let main_cst_4 : FVec F S_ .f32 := constant S_ .f32 0x7F800000#32
  let main_v18 : FVec F S128 .f32 := broadcastInDim S128 ![] bcast_S_S128 main_cst_4
  let main_v19 : IVec S128 1 := cmpf .olt main_arg4 main_v18
  let main_v20 : IVec S128 1 := andi main_v17 main_v19
  let main_c_5 : IVec S_ 1 := constantI S_ 1 1#1
  let main_v21 : IVec S_ 1 := (fun x v => Host.reduce IntOp.andi x v reducesTo_S128_S_d0 h_S_) main_v20 main_c_5
  let main_v22 : IVec S_ 1 := andi main_v15 main_v21
  main_v22

def fn {F : FTy → Type} [FloatOps F] (main_arg0 : FVec F S32768x128 .f32) (main_arg1 : IVec S17 32) (main_arg2 : FVec F S128x128 .f32) (main_arg3 : FVec F S128 .f32) (main_arg4 : FVec F S128 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![16] · slices_S17_S1_16) main_arg1
  let main_v4 : IVec S_ 32 := shapeCast S_ main_v3 shapeCasts_S1_S_
  let main_c_0 : IVec S_ 32 := constantI S_ 32 32768#32
  let main_v5 : IVec S_ 1 := cmpi .eq main_v4 main_c_0
  let main_v6 : IVec S_ 1 := andi main_v2 main_v5
  let main_v7 : IVec S16 32 := (extractStridedSlice S16 ![0] · slices_S17_S16_0) main_arg1
  let main_v8 : IVec S16 32 := (extractStridedSlice S16 ![1] · slices_S17_S16_1) main_arg1
  let main_v9 : IVec S16 1 := cmpi .sle main_v7 main_v8
  let main_c_1 : IVec S_ 1 := constantI S_ 1 1#1
  let main_v10 : IVec S_ 1 := (fun x v => Host.reduce IntOp.andi x v reducesTo_S16_S_d0 h_S_) main_v9 main_c_1
  let main_v11 : IVec S_ 1 := andi main_v6 main_v10
  let main_cst : FVec F S_ .f32 := constant S_ .f32 0x00000000#32
  let main_v12 : FVec F S128 .f32 := broadcastInDim S128 ![] bcast_S_S128 main_cst
  let main_v13 : IVec S128 1 := cmpf .oeq main_arg3 main_v12
  let main_c_2 : IVec S_ 1 := constantI S_ 1 1#1
  let main_v14 : IVec S_ 1 := (fun x v => Host.reduce IntOp.andi x v reducesTo_S128_S_d0 h_S_) main_v13 main_c_2
  let main_v15 : IVec S_ 1 := andi main_v11 main_v14
  let main_cst_3 : FVec F S_ .f32 := constant S_ .f32 0xFF800000#32
  let main_v16 : FVec F S128 .f32 := broadcastInDim S128 ![] bcast_S_S128 main_cst_3
  let main_v17 : IVec S128 1 := cmpf .ogt main_arg4 main_v16
  fn_part1 (F := F) main_arg4 main_v15 main_v17
-- ==== Kernel.lean ====
abbrev S32768x128 : Shape := ⟨2, ![32768, 128]⟩
abbrev S17 : Shape := ⟨1, ![17]⟩
abbrev S128x128 : Shape := ⟨2, ![128, 128]⟩
abbrev S128 : Shape := ⟨1, ![128]⟩
abbrev S1x128 : Shape := ⟨2, ![1, 128]⟩
abbrev S16x128 : Shape := ⟨2, ![16, 128]⟩
abbrev S2x1x16384 : Shape := ⟨3, ![2, 1, 16384]⟩
abbrev S16384x128 : Shape := ⟨2, ![16384, 128]⟩
abbrev S1x1x16384 : Shape := ⟨3, ![1, 1, 16384]⟩
abbrev S2x16384 : Shape := ⟨2, ![2, 16384]⟩
abbrev S1x1 : Shape := ⟨2, ![1, 1]⟩
abbrev S16x1 : Shape := ⟨2, ![16, 1]⟩
abbrev S1 : Shape := ⟨1, ![1]⟩
abbrev S8192x128 : Shape := ⟨2, ![8192, 128]⟩
abbrev S128x8192 : Shape := ⟨2, ![128, 8192]⟩
abbrev S1x8192 : Shape := ⟨2, ![1, 8192]⟩
abbrev S16x8192 : Shape := ⟨2, ![16, 8192]⟩
abbrev S16 : Shape := ⟨1, ![16]⟩
abbrev S1x16384 : Shape := ⟨2, ![1, 16384]⟩
abbrev S16x16384 : Shape := ⟨2, ![16, 16384]⟩
abbrev S16x2 : Shape := ⟨2, ![16, 2]⟩

abbrev nBuf : Space → Nat
  | .hbm => 7
  | .vmem => 11
  | .smem => 1
  | _ => 0

abbrev bufTy : (tb : Table) → Fin (tcTables nBuf tb) → BufTy
  | .hbm, ⟨0, _⟩ => ⟨S32768x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S16x128, .f32⟩
  | .hbm, ⟨6, _⟩ => ⟨S2x1x16384, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S16x128, .f32⟩
  | .local _ .vmem, ⟨5, _⟩ => ⟨S1x1x16384, .f32⟩
  | .local _ .vmem, ⟨6, _⟩ => ⟨S1x1x16384, .f32⟩
  | .local _ .vmem, ⟨7, _⟩ => ⟨S2x16384, .f32⟩
  | .local _ .vmem, ⟨8, _⟩ => ⟨S1x1, .f32⟩
  | .local _ .vmem, ⟨9, _⟩ => ⟨S16x1, .f32⟩
  | .local _ .vmem, ⟨10, _⟩ => ⟨S16x128, .f32⟩
  | .local _ .smem, ⟨0, _⟩ => ⟨S17, .i32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_15 : BitVec 32 := 0#32
  let v68 : BitVec 1 := Scalar.cmpi .ne v67 c0_i32_15
  v68

def k0_off1 (i : grid0.Coords) : Fin 2 → Nat :=
  let arg1 : BitVec 32 := BitVec.ofNat 32 (i 1).val
  let v86 : Index := Scalar.indexCast arg1
  let c0_26 : Index := 0#32
  ![v86.toNat, 0]
def k0_off2 (i : grid0.Coords) : Fin 2 → Nat :=
  let arg1 : BitVec 32 := BitVec.ofNat 32 (i 1).val
  let v96 : Index := Scalar.indexCast arg1
  let c8192_30 : Index := 8192#32
  ![v96.toNat, 8192]
def k0_cond3 (i : grid0.Coords) : BitVec 1 :=
  let arg0 : BitVec 32 := BitVec.ofNat 32 (i 0).val
  let c1_i32 : BitVec 32 := 1#32
  let v69 : BitVec 1 := Scalar.cmpi .eq arg0 c1_i32
  let v70 : BitVec 32 := Scalar.extui v69
  let c0_i32_16 : BitVec 32 := 0#32
  let v71 : BitVec 1 := Scalar.cmpi .ne v70 c0_i32_16
  v71

def k0_off3 (i : grid0.Coords) : Fin 2 → Nat :=
  let arg1 : BitVec 32 := BitVec.ofNat 32 (i 1).val
  let v79 : Index := Scalar.indexCast arg1
  let c0_21 : Index := 0#32
  ![v79.toNat, 0]
def k0_cond4 (i : grid0.Coords) : BitVec 1 :=
  let arg1 : BitVec 32 := BitVec.ofNat 32 (i 1).val
  let c0_i32_28 : BitVec 32 := 0#32
  let v111 : BitVec 1 := Scalar.cmpi .eq arg1 c0_i32_28
  let v112 : BitVec 32 := Scalar.extui v111
  let c0_i32_29 : BitVec 32 := 0#32
  let v113 : BitVec 1 := Scalar.cmpi .ne v112 c0_i32_29
  v113

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== ReferenceIdeal.lean ====
abbrev S32768x128 : Shape := ⟨2, ![32768, 128]⟩
abbrev S17 : Shape := ⟨1, ![17]⟩
abbrev S128x128 : Shape := ⟨2, ![128, 128]⟩
abbrev S128 : Shape := ⟨1, ![128]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S_ : Shape := ⟨0, ![]⟩
abbrev S1x128 : Shape := ⟨2, ![1, 128]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x128 : Shape := ⟨2, ![16, 128]⟩
abbrev S2x1x16384 : Shape := ⟨3, ![2, 1, 16384]⟩

abbrev nBuf : Space → Nat
  | .hbm => 82
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S17, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S32768, .i32⟩
  | .hbm, ⟨6, _⟩ => ⟨S1x17, .i32⟩
  | .hbm, ⟨7, _⟩ => ⟨S32768x1, .i32⟩
  | .hbm, ⟨8, _⟩ => ⟨S32768x17, .i32⟩
  | .hbm, ⟨9, _⟩ => ⟨S32768x17, .i32⟩
  | .hbm, ⟨10, _⟩ => ⟨S32768x17, .i1⟩
  | .hbm, ⟨11, _⟩ => ⟨S32768x17, .i32⟩
  | .hbm, ⟨12, _⟩ => ⟨S_, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S128x128, .f32⟩
  | .hbm, ⟨18, _⟩ => ⟨S32768x128, .f32⟩
  | .hbm, ⟨19, _⟩ => ⟨S1x128, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S32768, .f32⟩
  | .hbm, ⟨24, _⟩ => ⟨S1x32768, .i32⟩
  | .hbm, ⟨25, _⟩ => ⟨S16, .i32⟩
  | .hbm, ⟨26, _⟩ => ⟨S16x1, .i32⟩
  | .hbm, ⟨27, _⟩ => ⟨S16x32768, .i32⟩
  | .hbm, ⟨28, _⟩ => ⟨S16x32768, .i32⟩
  | .hbm, ⟨29, _⟩ => ⟨S16x32768, .i1⟩
  | .hbm, ⟨30, _⟩ => ⟨S1x32768, .f32⟩
  | .hbm, ⟨31, _⟩ => ⟨S_, .f32⟩
  | .hbm, ⟨32, _⟩ => ⟨S_, .f32⟩
  | .hbm, ⟨33, _⟩ => ⟨S16x32768, .f32⟩
  | .hbm, ⟨34, _⟩ => ⟨S16x32768, .f32⟩
  | .hbm, ⟨35, _⟩ => ⟨S16x32768, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .i1⟩
  | .hbm, ⟨41, _⟩ => ⟨S_, .f32⟩
  | .hbm, ⟨42, _⟩ => ⟨S16, .f32⟩
  | .hbm, ⟨43, _⟩ => ⟨S16, .i1⟩
  | .hbm, ⟨44, _⟩ => ⟨S16, .i1⟩
  | .hbm, ⟨45, _⟩ => ⟨S_, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768, .f32⟩
  | .hbm, ⟨58, _⟩ => ⟨S32768, .f32⟩
  | .hbm, ⟨59, _⟩ => ⟨S32768, .f32⟩
  | .hbm, ⟨60, _⟩ => ⟨S_, .f32⟩
  | .hbm, ⟨61, _⟩ => ⟨S16, .f32⟩
  | .hbm, ⟨62, _⟩ => ⟨S32768x1, .i32⟩
  | .hbm, ⟨63, _⟩ => ⟨S16, .f32⟩
  | .hbm, ⟨64, _⟩ => ⟨S_, .i32⟩
  | .hbm, ⟨65, _⟩ => ⟨S32768, .i32⟩
  | .hbm, ⟨66, _⟩ => ⟨S32768, .i1⟩
  | .hbm, ⟨67, _⟩ => ⟨S_, .i32⟩
  | .hbm, ⟨68, _⟩ => ⟨S32768, .i32⟩
  | .hbm, ⟨69, _⟩ => ⟨S32768, .i32⟩
  | .hbm, ⟨70, _⟩ => ⟨S32768, .i32⟩
  | .hbm, ⟨71, _⟩ => ⟨S32768x1, .i32⟩
  | .hbm, ⟨72, _⟩ => ⟨S32768, .f32⟩
  | .hbm, ⟨73, _⟩ => ⟨S32768, .f32⟩
  | .hbm, ⟨74, _⟩ => ⟨S32768x1, .f32⟩
  | .hbm, ⟨75, _⟩ => ⟨S32768x128, .f32⟩
  | .hbm, ⟨76, _⟩ => ⟨S32768x128, .f32⟩
  | .hbm, ⟨77, _⟩ => ⟨S_, .f32⟩
  | .hbm, ⟨78, _⟩ => ⟨S16x128, .f32⟩
  | .hbm, ⟨79, _⟩ => ⟨S32768x1, .i32⟩
  | .hbm, ⟨80, _⟩ => ⟨S16x128, .f32⟩
  | .hbm, ⟨81, _⟩ => ⟨S2x1x16384, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Proof.Same.lean ====
/- The kernel as it is printed for bits and as it is printed for reading over the extended reals are one text: every
   definition of the one is that of the other, so what is proved of the second program at every kind of float holds of
   the first. -/
module

public import proofs.«01_k».proof.Proof.Gen.Kernel
public import proofs.«01_k».proof.Proof.Gen.KernelIdeal

@[expose] public section

set_option maxRecDepth 16384

noncomputable section

namespace Cert.AttnPool

open Idealize.ShloMosaic Idealize.ShloMosaic.TcCoe

variable {F : FTy → Type} [FloatOps F]

set_option maxHeartbeats 2000000 in
/-- The first part of the body's first phase. -/
theorem same_part1 : Cert.Kernel.k0_part1 (F := F) = Cert.KernelIdeal.k0_part1 (F := F) := rfl

set_option maxHeartbeats 2000000 in
/-- The second part of the body's first phase. -/
theorem same_part2 : Cert.Kernel.k0_part2 (F := F) = Cert.KernelIdeal.k0_part2 (F := F) := rfl

set_option maxHeartbeats 2000000 in
/-- The body's first part, up to the pointer words. -/
theorem same_part3 : Cert.Kernel.k0_part3 (F := F) = Cert.KernelIdeal.k0_part3 (F := F) := rfl

set_option maxHeartbeats 2000000 in
/-- The body. -/
theorem same_body : Cert.Kernel.cc0__attn_pool_kernel (F := F) = Cert.KernelIdeal.cc0__attn_pool_kernel (F := F) := rfl

set_option maxHeartbeats 2000000 in
/-- The table of bodies. -/
theorem same_bodies : Cert.Kernel.defs₀ (F := F) = Cert.KernelIdeal.defs₀ (F := F) := by
  unfold Cert.Kernel.defs₀ Cert.KernelIdeal.defs₀
  refine congrArg (Defs.onTc (Λ := Cert.Kernel.Λ₀)) (funext fun ℓ => ?_)
  match ℓ with
  | (0 : Fin 1) =>
    funext ⟨t, s⟩
    show Cert.Kernel.cc0__attn_pool_kernel _ _ _ _ _ _ _ _ _ _ _ _ _ _ _ _ _ _ _ _ _ = Cert.KernelIdeal.cc0__attn_pool_kernel _ _ _ _ _ _ _ _ _ _ _ _ _ _ _ _ _ _ _ _ _
    rw [same_body]
    rfl

/-- The table with the pipeline's entries. -/
theorem same_defs : Cert.Kernel.defs (F := F) = Cert.KernelIdeal.defs (F := F) := by
  show Pipeline.defs Cert.Kernel.pcfgs Cert.Kernel.defs₀ = _
  rw [same_bodies]
  rfl

/-- The program. -/
theorem same_main : Cert.Kernel.main (F := F) = Cert.KernelIdeal.main (F := F) := rfl

end Cert.AttnPool

end
-- ==== Proof.KPoints.lean ====
/- The schedule of the kernel's windows on the four points of its grid: at which points a window is fetched or
   written back, which of its two staging buffers it is on, and the kernel body as it is called at a point. These
   declarations and those of `KRuns` are the launch's set-up: they follow the generated frame proof of the same
   kernel. The runs of `KRunA` to `KRunD` follow it too, with the score table and the results named besides. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! The schedule is stated at any contents `a` of the pointer table: no window's index map reads the table. -/

-- window 0, the tile of rows, is fetched at points 0, 1 and 2; nothing below needs that
/-- Window 1 is fetched at the first point only. -/
theorem fetch0_1 (a : (pcfg0 (F := F)).Adm) : ∀ t : Fin (cfg0 a).N, ((cfg0 a).win 1).fetch t = true ↔ t.val % 4 = 0 :=
  (fun t => Pipeline.Window.fetchOf_const cc0_transform_1 (fun _ _ => rfl) (n := 4) (by decide) t : ∀ t : Fin grid0.N, Pipeline.Window.fetchOf grid0 false cc0_transform_1 t = true ↔ t.val % 4 = 0)
/-- Window 2 is fetched at the first point only. -/
theorem fetch0_2 (a : (pcfg0 (F := F)).Adm) : ∀ t : Fin (cfg0 a).N, ((cfg0 a).win 2).fetch t = true ↔ t.val % 4 = 0 :=
  (fun t => Pipeline.Window.fetchOf_const cc0_transform_2 (fun _ _ => rfl) (n := 4) (by decide) t : ∀ t : Fin grid0.N, Pipeline.Window.fetchOf grid0 false cc0_transform_2 t = true ↔ t.val % 4 = 0)
/-- Window 3 is written back at the last point only. -/
theorem flush0_3 (a : (pcfg0 (F := F)).Adm) : ∀ t : Fin (cfg0 a).N, ((cfg0 a).win 3).flush t = true ↔ t.val % 4 = 3 :=
  (fun t => Pipeline.Window.flushOf_const cc0_transform_3 (fun _ _ => rfl) (n := 4) (by decide) rfl t : ∀ t : Fin grid0.N, Pipeline.Window.flushOf grid0 true cc0_transform_3 t = true ↔ t.val % 4 = 3)
/-- Window 4 is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on the buffers the pipeline calls it with. -/
abbrev bodyAt0 (a : (pcfg0 (F := F)).Adm) (t : Fin (cfg0 a).N) : Prog (TpuEff nD τ sig (Elt F) Λ₀ .tc) PUnit :=
  cc0__attn_pool_kernel (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KRuns.lean ====
/- What the four cases of the body share: the buffers when the pallas_call is entered, the pointer table, the windows'
   blocks, the body's conditions in terms of the point, and the staging and scratch buffers. Launch set-up, like
   `KPoints`, following the generated frame proof of the same kernel. -/
module

public import proofs.«01_k».proof.Proof.Gen.KernelIdeal.Launch
public import proofs.«01_k».proof.Proof.Gen.KernelIdeal.Skeleton
public import proofs.«01_k».proof.Proof.KPoints
public import Idealize.ShloMosaic.Lib.Pipeline.FrameBody
public import Idealize.ShloMosaic.Lib.Ring
public import Idealize.ShloMosaic.Lib.Tactic
public import Idealize.ShloMosaic.Lib.WordCmp

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the pallas_call -/

/-- A device's buffers when the pallas_call is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the pallas_call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The pointer table, read off the launch memory -/

/-- The table when the pallas_call is entered, on device 0, the only one. -/
def tbl : pre0.Contents (Elt F) := fun j => V m (0 : Dev nD) (pre0.ref j)
/-- Every device holds that table: there is one device. -/
theorem V_pre (c : Dev nD) (j : Fin 1) : V m c (pre0.ref j) = tbl m j := by
  obtain rfl : c = 0 := Subsingleton.elim _ _; rfl
/-- The side condition on the table's contents; no index map reads the table, so it is trivial. -/
abbrev Ok : Prop := ok0 (F := F) (tbl m)
/-- The table's contents with their side condition, and the pipeline at them. -/
abbrev adm (hO : Ok m) : (pcfg0 (F := F)).Adm := ⟨tbl m, hO⟩
abbrev cfgM (hO : Ok m) : Pipeline.Cfg sig Λ₀ := cfg0 (adm m hO)

/-- The table as the body is handed it: its whole buffer. -/
abbrev tbM0_0 : Memref sig .tc .smem S17 .i32 := Memref.whole main_arg1
abbrev htbM0_0 : tbM0_0.IsWhole := Memref.isWhole_whole _

/-- The table's buffer held at half the full share, so read only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The half of the table that the body is handed and gives back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the pallas_call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, for any proof data over those arrays whose body
    leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over those arrays whose body
    leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over those arrays whose body
    leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- The arguments are unchanged: from a run of the pipeline whose arrays are those it was entered with. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The body's condition for the first phase. -/
abbrev cond0_0 (i : grid0.Coords) : Prop := k0_cond1 i = 1#1
/-- It holds at the points before point 2. -/
theorem hcond0_0 : ∀ t : Fin grid0.N, cond0_0 (grid0.coords t) ↔ t.val < 2 :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val < 2)

/-- The body's condition for the first tile, in the first phase. -/
abbrev cond0_1 (i : grid0.Coords) : Prop := (Scalar.cmpi .ne (Scalar.extui (Scalar.cmpi .eq (BitVec.ofNat 32 (i 1).val) 0#32)) 0#32) = 1#1
/-- It holds at the even points. -/
theorem hcond0_1 : ∀ t : Fin grid0.N, cond0_1 (grid0.coords t) ↔ t.val % 2 = 0 :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [cond0_1, e0, e1]
    word_cmp
   : ∀ t : Fin grid0.N, cond0_1 (grid0.coords t) ↔ t.val % 2 = 0)

/-- The body's condition for the second phase. -/
abbrev cond0_2 (i : grid0.Coords) : Prop := k0_cond3 i = 1#1
/-- It holds at the points from point 2 on. -/
theorem hcond0_2 : ∀ t : Fin grid0.N, cond0_2 (grid0.coords t) ↔ 2 ≤ t.val :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ 2 ≤ t.val)

/-- The body's condition for the first tile, in the second phase. -/
abbrev cond0_3 (i : grid0.Coords) : Prop := k0_cond4 i = 1#1
/-- It holds at the even points. -/
theorem hcond0_3 : ∀ t : Fin grid0.N, cond0_3 (grid0.coords t) ↔ t.val % 2 = 0 :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [cond0_3, k0_cond4, e0, e1]
    word_cmp
   : ∀ t : Fin grid0.N, cond0_3 (grid0.coords t) ↔ t.val % 2 = 0)

/-! ## The input windows are never idle -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The body's buffers -/

/-- Each window's staging buffer at point `t`, and that it is whole. -/
abbrev ms0_0 (hO : Ok m) (t : Fin (cfgM m hO).N) : Memref sig .tc .vmem S16384x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S16x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x16384 .f32 := spec0_4.stage ((cfgM m hO).slots t 4)
abbrev hs0_4 (hO : Ok m) (t : Fin (cfgM m hO).N) : (ms0_4 m hO t).IsWhole := hstage0_4 (((cfgM m hO).slots t 4).cast nbuf0_4)
/-- The four scratch buffers: scores, running maximum, running sums, running pooled rows. -/
abbrev scM0_0 : Memref sig .tc .vmem S2x16384 .f32 := Memref.whole cc0_scratch0
abbrev scM0_1 : Memref sig .tc .vmem S1x1 .f32 := Memref.whole cc0_scratch1
abbrev scM0_2 : Memref sig .tc .vmem S16x1 .f32 := Memref.whole cc0_scratch2
abbrev scM0_3 : Memref sig .tc .vmem S16x128 .f32 := Memref.whole cc0_scratch3
/-- The running maximum as a view. -/
abbrev VS0_1 : View sig .tc .vmem S1x1 .f32 := scM0_1.view
/-- The running sums as a view. -/
abbrev VS0_2 : View sig .tc .vmem S16x1 .f32 := scM0_2.view
/-- The running pooled rows as a view. -/
abbrev VS0_3 : View sig .tc .vmem S16x128 .f32 := scM0_3.view

/-- What the body is handed besides the windows: the four scratch buffers, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KRunA.lean ====
/- The whole-body run of the attention-pool kernel in case A: phase 0, first tile (the running maximum, sums and pooled rows are reset first).
   The triple of the body by symbolic execution, the pieces that the stores leave in each buffer named. It follows
   the generated frame proof's run of the same case, which leaves the score table and the results unnamed. -/
module

public import proofs.«01_k».proof.Proof.KRuns

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- Case A: the pieces that the body stores into the score table, the running maximum, the running sums and the pooled rows, with the body's triple. The score table is held at `xs0` before. -/
noncomputable def kernelRun0_A (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : cond0_1 i) (hc2 : ¬cond0_2 i)
    (x0 : Vec F S16384x128 .f32) (x1 : Vec F S128x128 .f32) (x2 : Vec F S1x128 .f32) (xt0 : TbBuf0 (F := F) c tbM0_0) (xs0 : Vec F S2x16384 .f32) :
    Σ' (LS0 : List (View.Piece (Elt F) S2x16384 .f32)), Σ' (LS1 : List (View.Piece (Elt F) S1x1 .f32)), Σ' (LS2 : List (View.Piece (Elt F) S16x1 .f32)), { LS3 : List (View.Piece (Elt F) S16x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} arg8.view.writes (Elt F) (harg8.unread xs0) LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ tbPt0 c tbM0_0 xt0) -∗ K ⟨⟩))
          ⊢ wp frame (wpE (defs₀ (F := F)) Variants.none c none) E (cc0__attn_pool_kernel i tbM0_0 htbM0_0 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_pool_kernel_eq_skeleton]; unfold cc0__attn_pool_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg8.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [HS0]
    · iexact HS0
    isplitl [HS1]; · iexists _; iexact HS1
    isplitl [HS2]; · iexists _; iexact HS2
    isplitl [HS3]; · iexists _; iexact HS3
    iexact HT0

end Cert.KernelIdeal.Gen

end
-- ==== Proof.KRunB.lean ====
/- The whole-body run of the attention-pool kernel in case B: phase 0, second tile.
   The triple of the body by symbolic execution, the pieces that the stores leave in each buffer named. It follows
   the generated frame proof's run of the same case, which leaves the score table and the results unnamed. -/
module

public import proofs.«01_k».proof.Proof.KRunA

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1200000 in
/-- Case B: the pieces that the body stores into the four scratch buffers, with the body's triple, the scratch buffers held at `xs0` … `xs3` before. -/
noncomputable def kernelRun0_B (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i) (hc2 : ¬cond0_2 i)
    (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) :
    Σ' (LS0 : List (View.Piece (Elt F) S2x16384 .f32)), Σ' (LS1 : List (View.Piece (Elt F) S1x1 .f32)), Σ' (LS2 : List (View.Piece (Elt F) S16x1 .f32)), { LS3 : List (View.Piece (Elt F) S16x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} arg8.view.writes (Elt F) (harg8.unread xs0) LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ tbPt0 c tbM0_0 xt0) -∗ K ⟨⟩))
          ⊢ wp frame (wpE (defs₀ (F := F)) Variants.none c none) E (cc0__attn_pool_kernel i tbM0_0 htbM0_0 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_pool_kernel_eq_skeleton]; unfold cc0__attn_pool_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, HT0, Hk⟩
    obtain rfl := harg3.eq_unread hf0; obtain rfl := harg4.eq_unread hf1; obtain rfl := harg5.eq_unread hf2; obtain rfl := harg8.eq_unread hfs0; obtain rfl := harg9.eq_unread hfs1; obtain rfl := harg10.eq_unread hfs2; obtain rfl := harg11.eq_unread hfs3
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [HS0]
    · iexact HS0
    isplitl [HS1]; · iexists _; iexact HS1
    isplitl [HS2]; · iexists _; iexact HS2
    isplitl [HS3]; · iexists _; iexact HS3
    iexact HT0

end Cert.KernelIdeal.Gen

end
-- ==== Proof.KRunC.lean ====
/- The whole-body run of the attention-pool kernel in case C: phase 1, first tile (the pooled rows are written).
   The triple of the body by symbolic execution, the pieces that the stores leave in each buffer named. It follows
   the generated frame proof's run of the same case, which leaves the score table and the results unnamed. -/
module

public import proofs.«01_k».proof.Proof.KRunB

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- Case C: the pieces that the body stores into both result windows, with the body's triple; the scratch buffers stay at `xs0` … `xs3`. -/
noncomputable def kernelRun0_C (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc2 : cond0_2 i) (hc3 : cond0_3 i)
    (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) :
    Σ' (LO3 : List (View.Piece (Elt F) S16x128 .f32)), { LO4 : List (View.Piece (Elt F) S1x1x16384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO3) ∗ (∃ f, arg7.view.loc (c : Thread nD τ) ↦[arg7.view.set]{fullShare} arg7.view.writes (Elt F) f LO4) ∗ owns (c : Thread nD τ) arg8 fullShare xs0 ∗ owns (c : Thread nD τ) arg9 fullShare xs1 ∗ owns (c : Thread nD τ) arg10 fullShare xs2 ∗ owns (c : Thread nD τ) arg11 fullShare xs3 ∗ tbPt0 c tbM0_0 xt0) -∗ K ⟨⟩))
          ⊢ wp frame (wpE (defs₀ (F := F)) Variants.none c none) E (cc0__attn_pool_kernel i tbM0_0 htbM0_0 arg3 harg3 arg4 harg4 arg5 harg5 arg6 harg6 arg7 harg7 arg8 harg8 arg9 harg9 arg10 harg10 arg11 harg11) K } := by
  refine ⟨?_, ?_, fun E K => ?run⟩
  case run =>
    simp only [cc0__attn_pool_kernel_eq_skeleton]; unfold cc0__attn_pool_kernel_skel
    simp only [k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, HT0, Hk⟩
    obtain rfl := harg3.eq_unread hf0; obtain rfl := harg4.eq_unread hf1; obtain rfl := harg5.eq_unread hf2; obtain rfl := harg8.eq_unread hfs0; obtain rfl := harg9.eq_unread hfs1; obtain rfl := harg10.eq_unread hfs2; obtain rfl := harg11.eq_unread hfs3
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    iexact HT0

end Cert.KernelIdeal.Gen

end
-- ==== Proof.KRunD.lean ====
/- The whole-body run of the attention-pool kernel in case D: phase 1, second tile.
   The triple of the body by symbolic execution, the pieces that the stores leave in each buffer named. It follows
   the generated frame proof's run of the same case, which leaves the score table and the results unnamed. -/
module

public import proofs.«01_k».proof.Proof.KRunC

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- Case D: the pieces that the body stores into the second result window, with the body's triple; the scratch buffers and the first result window stay as they were. -/
noncomputable def kernelRun0_D (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc2 : cond0_2 i) (hc3 : ¬cond0_3 i)
    (x0 : Vec F S16384x128 .f32) (x1 : Vec F S128x128 .f32) (x2 : Vec F S1x128 .f32) (xt0 : TbBuf0 (F := F) c tbM0_0) (x3 : Vec F S16x128 .f32) (xs0 : Vec F S2x16384 .f32) (xs1 : Vec F S1x1 .f32) (xs2 : Vec F S16x1 .f32) (xs3 : Vec F S16x128 .f32) :
    { LO4 : List (View.Piece (Elt F) S1x1x16384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO4) ∗ owns (c : Thread nD τ) arg8 fullShare xs0 ∗ owns (c : Thread nD τ) arg9 fullShare xs1 ∗ owns (c : Thread nD τ) arg10 fullShare xs2 ∗ owns (c : Thread nD τ) arg11 fullShare xs3 ∗ tbPt0 c tbM0_0 xt0) -∗ K ⟨⟩))
          ⊢ wp frame (wpE (defs₀ (F := F)) Variants.none c none) E (cc0__attn_pool_kernel i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0__attn_pool_kernel_eq_skeleton]; unfold cc0__attn_pool_kernel_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, HT0, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2; obtain rfl := harg11.eq_unread hfs3
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    iexact HT0

end Cert.KernelIdeal.Gen

end
-- ==== Proof.KOut.lean ====
/- What each case of the body leaves in the scratch buffers and the result windows, as functions of the blocks,
   the pointer words and the scratch contents before. -/
module

public import proofs.«01_k».proof.Proof.KRunD
public import Idealize.ShloMosaic.Lib.Pipeline.ValueKit
public import Idealize.ShloMosaic.Lib.Pipeline.ReadBack
public import Idealize.ShloMosaic.Lib.Pointwise
public import Idealize.ShloMosaic.Lib.WritesUnit

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents as functions -/

/-- Pointer word `k`. -/
abbrev word (p : S17.Idx → BitVec 32) (k : Fin 17) : BitVec 32 := p (ix1 k)
/-- The first token of each segment. -/
def loW (p : S17.Idx → BitVec 32) : IVec S16x1 32 :=
  k0_pay25 (F := F) (word p 0) (word p 1) (word p 2) (word p 3) (word p 4) (word p 5) (word p 6) (word p 7) (word p 8) (word p 9) (word p 10) (word p 11) (word p 12) (word p 13) (word p 14) (word p 15)
/-- One past the last token of each segment. -/
def hiW (p : S17.Idx → BitVec 32) : IVec S16x1 32 :=
  k0_pay1 (F := F) (k0_pay26 (F := F) (word p 1)) (k0_pay27 (F := F) (word p 2)) (k0_pay28 (F := F) (word p 3)) (word p 4) (word p 5) (word p 6) (word p 7) (word p 8) (word p 9) (word p 10) (word p 11) (word p 12) (word p 13) (word p 14) (word p 15) (word p 16)
/-- The first 8192 rows of a tile. -/
def topRows (x0 : Vec F S16384x128 .f32) : Vec F S8192x128 .f32 := View.ld x0 (Rect.unit ![0, 0] ![8192, 128] inb_S16384x128_S8192x128_0_0)
/-- The last 8192 rows of a tile. -/
def botRows (x0 : Vec F S16384x128 .f32) : Vec F S8192x128 .f32 := View.ld x0 (Rect.unit ![8192, 0] ![8192, 128] inb_S16384x128_S8192x128_8192_0)
/-- The running maximum after a tile. -/
def maxStep (x0 : Vec F S16384x128 .f32) (x1 : Vec F S128x128 .f32) (x2 : Vec F S1x128 .f32) (mo : Vec F S1x1 .f32) : Vec F S1x1 .f32 :=
  k0_pay4 (k0_pay19 x1 x2 (topRows x0) (botRows x0) mo)
/-- The running sums after a tile. -/
def sumStep (j : BitVec 32) (p : S17.Idx → BitVec 32) (x0 : Vec F S16384x128 .f32) (x1 : Vec F S128x128 .f32) (x2 : Vec F S1x128 .f32) (mo : Vec F S1x1 .f32) (lo : Vec F S16x1 .f32) : Vec F S16x1 .f32 :=
  k0_pay2 (k0_pay20 x1 x2 (topRows x0) (botRows x0) mo)
    (k0_pay24 j (loW (F := F) p) (hiW (F := F) p) (k0_pay14 x1 x2 (topRows x0)) (k0_pay17 x1 x2 (botRows x0)) (k0_pay19 x1 x2 (topRows x0) (botRows x0) mo)) lo
/-- The running pooled rows after a tile. -/
def accStep (j : BitVec 32) (p : S17.Idx → BitVec 32) (x0 : Vec F S16384x128 .f32) (x1 : Vec F S128x128 .f32) (x2 : Vec F S1x128 .f32) (mo : Vec F S1x1 .f32) (ao : Vec F S16x128 .f32) : Vec F S16x128 .f32 :=
  k0_pay3 (k0_pay16 (botRows x0)) (k0_pay20 x1 x2 (topRows x0) (botRows x0) mo)
    (k0_pay22 j (loW (F := F) p) (hiW (F := F) p) (k0_pay13 (topRows x0)) (k0_pay14 x1 x2 (topRows x0)) (k0_pay19 x1 x2 (topRows x0) (botRows x0) mo))
    (k0_pay23 j (loW (F := F) p) (hiW (F := F) p) (k0_pay17 x1 x2 (botRows x0)) (k0_pay19 x1 x2 (topRows x0) (botRows x0) mo)) ao
/-- The scores of a tile, its two halves side by side. -/
def scoreRow (x0 : Vec F S16384x128 .f32) (x1 : Vec F S128x128 .f32) (x2 : Vec F S1x128 .f32) : Vec F S1x16384 .f32 := fun y =>
  if h : (y 1).val < 8192 then k0_pay15 x1 x2 (topRows x0) (ix2 0 ⟨(y 1).val, h⟩)
  else k0_pay18 x1 x2 (botRows x0) (ix2 0 ⟨(y 1).val - 8192, by have : (y 1).val < 16384 := (y 1).isLt; omega⟩)

/-- A position in a rectangle of a table, coordinate by coordinate. -/
theorem pos_in {n0 n1 s0 s1 : ℕ} (y : (⟨2, ![n0, n1]⟩ : Shape).Idx) (r b : ℕ) (u : Fin s0) (w : Fin s1) (h0 : (y 0).val = r + u.val) (h1 : (y 1).val = b + w.val) :
    ∀ a : Fin 2, (y a).val = (![r, b] : Fin 2 → ℕ) a + ((ix2 u w : (⟨2, ![s0, s1]⟩ : Shape).Idx) a).val := Fin.forall_fin_two.mpr ⟨h0, h1⟩

theorem scoreRow_lt (x0 : Vec F S16384x128 .f32) (x1 : Vec F S128x128 .f32) (x2 : Vec F S1x128 .f32) (k : Fin 16384) (h : k.val < 8192) :
    scoreRow x0 x1 x2 (ix2 0 k) = k0_pay15 x1 x2 (topRows x0) (ix2 0 ⟨k.val, h⟩) := dif_pos (c := k.val < 8192) h

theorem scoreRow_ge (x0 : Vec F S16384x128 .f32) (x1 : Vec F S128x128 .f32) (x2 : Vec F S1x128 .f32) (k : Fin 16384) (h : ¬k.val < 8192) :
    scoreRow x0 x1 x2 (ix2 0 k) = k0_pay18 x1 x2 (botRows x0) (ix2 0 ⟨k.val - 8192, by omega⟩) := dif_neg (c := k.val < 8192) h

/-- A word read out of the pointers. -/
theorem ld_word (p : S17.Idx → BitVec 32) (n : ℕ) (hn : n < 17) (inb : ∀ a, (![n] : Fin 1 → ℕ) a + (![1] : Fin 1 → ℕ) a ≤ S17.size a)
    (y : (Rect.unit (s := S17) ![n] ![1] inb).shape.Idx) :
    View.ld (Val := Elt F) (e' := .i32) (View.read (Elt F) (View.whole main_arg1) p) (Rect.unit (s := S17) ![n] ![1] inb) y = word p ⟨n, hn⟩ := by
  show p _ = p _
  congr 1
  funext a
  obtain rfl : a = (0 : Fin 1) := Fin.fin_one_eq_zero a
  apply Fin.ext
  have : (y 0).val < 1 := (y 0).isLt
  show n + 1 * (y 0).val = n
  omega

set_option maxHeartbeats 400000 in
theorem outA_m (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (f) :
    arg9.view.read (Elt F) (arg9.view.writes (Elt F) f (kernelRun0_A c i arg3 harg3 arg4 harg4 arg5 harg5 arg6 harg6 arg7 harg7 arg8 harg8 arg9 harg9 arg10 harg10 arg11 harg11 hc0 hc1 hc2 x0 x1 x2 xt0 xs0).2.1) = maxStep x0 x1 x2 k0_pay8 := by
  rw [View.read_writes_of_cover _ f arg9.view arg9.view.junk _ (View.cover_of_tiledL _ S1x1.size (by sl_kernel_rfl))]
  frame_open
  simp (disch := decide) only [↓ View.readCov_skip, ↓ View.readCov_cons_toLoadRect, ↓ View.readCov_fill]
  frame_out
  rfl

set_option maxHeartbeats 400000 in
theorem outA_l (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (f) :
    arg10.view.read (Elt F) (arg10.view.writes (Elt F) f (kernelRun0_A c i arg3 harg3 arg4 harg4 arg5 harg5 arg6 harg6 arg7 harg7 arg8 harg8 arg9 harg9 arg10 harg10 arg11 harg11 hc0 hc1 hc2 x0 x1 x2 xt0 xs0).2.2.1) = sumStep (BitVec.ofNat 32 (i 1).val) xt0 x0 x1 x2 k0_pay8 k0_pay9 := by
  rw [View.read_writes_of_cover _ f arg10.view arg10.view.junk _ (View.cover_of_tiledL _ S16x1.size (by sl_kernel_rfl))]
  frame_open
  simp (disch := decide) only [↓ View.readCov_skip, ↓ View.readCov_cons_toLoadRect, ↓ View.readCov_fill]
  frame_out
  simp (disch := decide) only [ld_word]
  rfl

set_option maxHeartbeats 400000 in
theorem outA_a (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (f) :
    arg11.view.read (Elt F) (arg11.view.writes (Elt F) f (kernelRun0_A c i arg3 harg3 arg4 harg4 arg5 harg5 arg6 harg6 arg7 harg7 arg8 harg8 arg9 harg9 arg10 harg10 arg11 harg11 hc0 hc1 hc2 x0 x1 x2 xt0 xs0).2.2.2.1) = accStep (BitVec.ofNat 32 (i 1).val) xt0 x0 x1 x2 k0_pay8 k0_pay10 := by
  rw [View.read_writes_of_cover _ f arg11.view arg11.view.junk _ (View.cover_of_tiledL _ S16x128.size (by sl_kernel_rfl))]
  frame_open
  simp (disch := decide) only [↓ View.readCov_skip, ↓ View.readCov_cons_toLoadRect, ↓ View.readCov_fill]
  frame_out
  simp (disch := decide) only [ld_word]
  rfl

set_option maxHeartbeats 400000 in
theorem outB_m (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) (f) :
    arg9.view.read (Elt F) (arg9.view.writes (Elt F) f (kernelRun0_B c i arg3 harg3 arg4 harg4 arg5 harg5 arg6 harg6 arg7 harg7 arg8 harg8 arg9 harg9 arg10 harg10 arg11 harg11 hc0 hc1 hc2 x0 x1 x2 xt0 xs0 xs1 xs2 xs3).2.1) = maxStep x0 x1 x2 xs1 := by
  rw [View.read_writes_of_cover _ f arg9.view arg9.view.junk _ (View.cover_of_tiledL _ S1x1.size (by sl_kernel_rfl))]
  frame_open
  simp (disch := decide) only [↓ View.readCov_skip, ↓ View.readCov_cons_toLoadRect, ↓ View.readCov_fill]
  frame_out
  rfl

set_option maxHeartbeats 400000 in
theorem outB_l (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) (f) :
    arg10.view.read (Elt F) (arg10.view.writes (Elt F) f (kernelRun0_B c i arg3 harg3 arg4 harg4 arg5 harg5 arg6 harg6 arg7 harg7 arg8 harg8 arg9 harg9 arg10 harg10 arg11 harg11 hc0 hc1 hc2 x0 x1 x2 xt0 xs0 xs1 xs2 xs3).2.2.1) = sumStep (BitVec.ofNat 32 (i 1).val) xt0 x0 x1 x2 xs1 xs2 := by
  rw [View.read_writes_of_cover _ f arg10.view arg10.view.junk _ (View.cover_of_tiledL _ S16x1.size (by sl_kernel_rfl))]
  frame_open
  simp (disch := decide) only [↓ View.readCov_skip, ↓ View.readCov_cons_toLoadRect, ↓ View.readCov_fill]
  frame_out
  simp (disch := decide) only [ld_word]
  rfl

set_option maxHeartbeats 400000 in
theorem outB_a (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) (f) :
    arg11.view.read (Elt F) (arg11.view.writes (Elt F) f (kernelRun0_B c i arg3 harg3 arg4 harg4 arg5 harg5 arg6 harg6 arg7 harg7 arg8 harg8 arg9 harg9 arg10 harg10 arg11 harg11 hc0 hc1 hc2 x0 x1 x2 xt0 xs0 xs1 xs2 xs3).2.2.2.1) = accStep (BitVec.ofNat 32 (i 1).val) xt0 x0 x1 x2 xs1 xs3 := by
  rw [View.read_writes_of_cover _ f arg11.view arg11.view.junk _ (View.cover_of_tiledL _ S16x128.size (by sl_kernel_rfl))]
  frame_open
  simp (disch := decide) only [↓ View.readCov_skip, ↓ View.readCov_cons_toLoadRect, ↓ View.readCov_fill]
  frame_out
  simp (disch := decide) only [ld_word]
  rfl

set_option maxHeartbeats 400000 in
theorem outC_h (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc2 : cond0_2 i) (hc3 : cond0_3 i) (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) (f) :
    arg6.view.read (Elt F) (arg6.view.writes (Elt F) f (kernelRun0_C c i arg3 harg3 arg4 harg4 arg5 harg5 arg6 harg6 arg7 harg7 arg8 harg8 arg9 harg9 arg10 harg10 arg11 harg11 hc0 hc2 hc3 x0 x1 x2 xt0 xs0 xs1 xs2 xs3).1) = k0_pay7 xs2 xs3 := by
  rw [View.read_writes_of_cover _ f arg6.view arg6.view.junk _ (View.cover_of_tiledL _ S16x128.size (by sl_kernel_rfl))]
  frame_open
  simp (disch := decide) only [↓ View.readCov_skip, ↓ View.readCov_cons_toLoadRect, ↓ View.readCov_fill]
  frame_out

set_option maxHeartbeats 400000 in
theorem outC_al (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc2 : cond0_2 i) (hc3 : cond0_3 i) (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) (f) :
    arg7.view.read (Elt F) (arg7.view.writes (Elt F) f (kernelRun0_C c i arg3 harg3 arg4 harg4 arg5 harg5 arg6 harg6 arg7 harg7 arg8 harg8 arg9 harg9 arg10 harg10 arg11 harg11 hc0 hc2 hc3 x0 x1 x2 xt0 xs0 xs1 xs2 xs3).2.1) = k0_pay6 (BitVec.ofNat 32 (i 1).val) (loW (F := F) xt0) (hiW (F := F) xt0) xs2 (View.ld xs0 (Rect.unit (k0_off3 i) ![1, 16384] (k0_off3_inb i hc2))) xs1 := by
  rw [View.read_writes_of_cover _ f arg7.view arg7.view.junk _ (View.cover_of_tiledL _ S1x1x16384.size (by sl_kernel_rfl))]
  frame_open
  simp (disch := decide) only [↓ View.readCov_skip, ↓ View.readCov_cons_toLoadRect, ↓ View.readCov_fill]
  frame_out
  simp (disch := decide) only [ld_word]
  rfl

set_option maxHeartbeats 400000 in
theorem outD_al (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc2 : cond0_2 i) (hc3 : ¬cond0_3 i) (x0 : Vec F S16384x128 .f32) (x1 : Vec F S128x128 .f32) (x2 : Vec F S1x128 .f32) (xt0 : TbBuf0 (F := F) c tbM0_0) (x3 : Vec F S16x128 .f32) (xs0 : Vec F S2x16384 .f32) (xs1 : Vec F S1x1 .f32) (xs2 : Vec F S16x1 .f32) (xs3 : Vec F S16x128 .f32) (f) :
    arg7.view.read (Elt F) (arg7.view.writes (Elt F) f (kernelRun0_D c i arg3 harg3 arg4 harg4 arg5 harg5 arg6 harg6 arg7 harg7 arg8 harg8 arg9 harg9 arg10 harg10 arg11 harg11 hc0 hc2 hc3 x0 x1 x2 xt0 x3 xs0 xs1 xs2 xs3).1) = k0_pay6 (BitVec.ofNat 32 (i 1).val) (loW (F := F) xt0) (hiW (F := F) xt0) xs2 (View.ld xs0 (Rect.unit (k0_off3 i) ![1, 16384] (k0_off3_inb i hc2))) xs1 := by
  rw [View.read_writes_of_cover _ f arg7.view arg7.view.junk _ (View.cover_of_tiledL _ S1x1x16384.size (by sl_kernel_rfl))]
  frame_open
  simp (disch := decide) only [↓ View.readCov_skip, ↓ View.readCov_cons_toLoadRect, ↓ View.readCov_fill]
  frame_out
  simp (disch := decide) only [ld_word]
  rfl

set_option maxHeartbeats 400000 in
theorem outA_s (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (y : S2x16384.Idx) :
    arg8.view.read (Elt F) (arg8.view.writes (Elt F) (harg8.unread xs0) (kernelRun0_A c i arg3 harg3 arg4 harg4 arg5 harg5 arg6 harg6 arg7 harg7 arg8 harg8 arg9 harg9 arg10 harg10 arg11 harg11 hc0 hc1 hc2 x0 x1 x2 xt0 xs0).1) y
      = if (y 0).val = (i 1).val then scoreRow x0 x1 x2 (ix2 0 (y 1)) else xs0 y := by
  frame_open
  frame_out
  by_cases h : (y 0).val = (i 1).val
  · rw [if_pos h]
    by_cases h1 : (y 1).val < 8192
    · have hp := pos_in (s0 := 1) (s1 := 8192) y (i 1).val 0 0 ⟨(y 1).val, h1⟩ h (Nat.zero_add _).symm
      exact ((View.read_writes_cons_unit_of_not_mem _ _ _ _ _ y (k0_off2_eq i) 1 (.inl h1)).trans
        (View.read_writes_cons_unit_of_mem _ _ _ _ _ y _ (k0_off1_eq i) hp)).trans (scoreRow_lt x0 x1 x2 (y 1) h1).symm
    · have h2 : (y 1).val < 16384 := (y 1).isLt
      have h3 : (y 1).val = 8192 + ((y 1).val - 8192) := by omega
      have h4 : (y 1).val - 8192 < 8192 := by omega
      have hp := pos_in (s0 := 1) (s1 := 8192) y (i 1).val 8192 0 ⟨(y 1).val - 8192, h4⟩ h h3
      exact (View.read_writes_cons_unit_of_mem _ _ _ _ _ y _ (k0_off2_eq i) hp).trans (scoreRow_ge x0 x1 x2 (y 1) h1).symm
  · rw [if_neg h]
    have ho : (y 0).val < (i 1).val ∨ (i 1).val + 1 ≤ (y 0).val := by omega
    refine (View.read_writes_cons_unit_of_not_mem _ _ _ _ _ y (k0_off2_eq i) 0 ?_).trans
      ((View.read_writes_cons_unit_of_not_mem _ _ _ _ _ y (k0_off1_eq i) 0 ?_).trans (congrFun (harg8.read_unread xs0) y))
    · exact ho
    · exact ho

set_option maxHeartbeats 400000 in
theorem outB_s (c : Dev nD) (i : grid0.Coords) (arg3 : Memref sig .tc .vmem S16384x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S1x1x16384 .f32) (harg7 : arg7.IsWhole) (arg8 : Memref sig .tc .vmem S2x16384 .f32) (harg8 : arg8.IsWhole) (arg9 : Memref sig .tc .vmem S1x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i) (hc2 : ¬cond0_2 i) (x0 : Vec F S16384x128 .f32) (x1 : Vec F S128x128 .f32) (x2 : Vec F S1x128 .f32) (xt0 : TbBuf0 (F := F) c tbM0_0) (xs0 : Vec F S2x16384 .f32) (xs1 : Vec F S1x1 .f32) (xs2 : Vec F S16x1 .f32) (xs3 : Vec F S16x128 .f32) (y : S2x16384.Idx) :
    arg8.view.read (Elt F) (arg8.view.writes (Elt F) (harg8.unread xs0) (kernelRun0_B c i arg3 harg3 arg4 harg4 arg5 harg5 arg6 harg6 arg7 harg7 arg8 harg8 arg9 harg9 arg10 harg10 arg11 harg11 hc0 hc1 hc2 x0 x1 x2 xt0 xs0 xs1 xs2 xs3).1) y
      = if (y 0).val = (i 1).val then scoreRow x0 x1 x2 (ix2 0 (y 1)) else xs0 y := by
  frame_open
  frame_out
  by_cases h : (y 0).val = (i 1).val
  · rw [if_pos h]
    by_cases h1 : (y 1).val < 8192
    · have hp := pos_in (s0 := 1) (s1 := 8192) y (i 1).val 0 0 ⟨(y 1).val, h1⟩ h (Nat.zero_add _).symm
      exact ((View.read_writes_cons_unit_of_not_mem _ _ _ _ _ y (k0_off2_eq i) 1 (.inl h1)).trans
        (View.read_writes_cons_unit_of_mem _ _ _ _ _ y _ (k0_off1_eq i) hp)).trans (scoreRow_lt x0 x1 x2 (y 1) h1).symm
    · have h2 : (y 1).val < 16384 := (y 1).isLt
      have h3 : (y 1).val = 8192 + ((y 1).val - 8192) := by omega
      have h4 : (y 1).val - 8192 < 8192 := by omega
      have hp := pos_in (s0 := 1) (s1 := 8192) y (i 1).val 8192 0 ⟨(y 1).val - 8192, h4⟩ h h3
      exact (View.read_writes_cons_unit_of_mem _ _ _ _ _ y _ (k0_off2_eq i) hp).trans (scoreRow_ge x0 x1 x2 (y 1) h1).symm
  · rw [if_neg h]
    have ho : (y 0).val < (i 1).val ∨ (i 1).val + 1 ≤ (y 0).val := by omega
    refine (View.read_writes_cons_unit_of_not_mem _ _ _ _ _ y (k0_off2_eq i) 0 ?_).trans
      ((View.read_writes_cons_unit_of_not_mem _ _ _ _ _ y (k0_off1_eq i) 0 ?_).trans (congrFun (harg8.read_unread xs0) y))
    · exact ho
    · exact ho

end Cert.KernelIdeal.Gen

end
-- ==== Proof.KBody.lean ====
/- The body of the kernel at every point of its grid: what the scratch buffers hold between points, what the result
   windows hold at the points of the second phase, and the run of the whole program with those contents. -/
module

public import proofs.«01_k».proof.Proof.KOut
public import Idealize.ShloMosaic.Lib.Claim
public import Idealize.ShloMosaic.Lib.Pipeline.DatRel
public import Idealize.ShloMosaic.Lib.Pipeline.ArrRel
public import Idealize.ShloMosaic.Lib.Pipeline.ValueKit
public import Idealize.ShloMosaic.Lib.Pipeline.ReadBack
public import Idealize.ShloMosaic.Lib.Pointwise
public import Idealize.ShloMosaic.Lib.WritesUnit

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- A point of the grid by its number. -/
def pt (hO : Ok m) (n : ℕ) (h : n < 4) : Fin (cfgM m hO).N := ⟨n, lt_of_lt_of_eq h (show (cfgM m hO).N = 4 from N_0).symm⟩

/-- The second grid coordinate is the point's number modulo two. -/
theorem coord1 : ∀ t : Fin grid0.N, (grid0.coords t 1).val = t.val % 2 := by decide

/-- The pointer words. -/
def ptrs : S17.Idx → BitVec 32 := tbl m 0

/-- The tile's rows, the weights and the context row staged at a point. -/
def xH (hO : Ok m) (c : Dev nD) (t : Fin (cfgM m hO).N) : Vec F S16384x128 .f32 := iblk m hO c 0 t
def xW (hO : Ok m) (c : Dev nD) (t : Fin (cfgM m hO).N) : Vec F S128x128 .f32 := iblk m hO c 1 t
def xC (hO : Ok m) (c : Dev nD) (t : Fin (cfgM m hO).N) : Vec F S1x128 .f32 := iblk m hO c 2 t

/-- The tile number as a word. -/
def jw (hO : Ok m) (t : Fin (cfgM m hO).N) : BitVec 32 := BitVec.ofNat 32 (grid0.coords t 1).val

/-- The running maximum, sums and pooled rows after the first tile. -/
def max1 (hO : Ok m) (c : Dev nD) : Vec F S1x1 .f32 := maxStep (xH m hO c (pt m hO 0 (by decide))) (xW m hO c (pt m hO 0 (by decide))) (xC m hO c (pt m hO 0 (by decide))) k0_pay8
def sum1 (hO : Ok m) (c : Dev nD) : Vec F S16x1 .f32 := sumStep (jw m hO (pt m hO 0 (by decide))) (ptrs m) (xH m hO c (pt m hO 0 (by decide))) (xW m hO c (pt m hO 0 (by decide))) (xC m hO c (pt m hO 0 (by decide))) k0_pay8 k0_pay9
def acc1 (hO : Ok m) (c : Dev nD) : Vec F S16x128 .f32 := accStep (jw m hO (pt m hO 0 (by decide))) (ptrs m) (xH m hO c (pt m hO 0 (by decide))) (xW m hO c (pt m hO 0 (by decide))) (xC m hO c (pt m hO 0 (by decide))) k0_pay8 k0_pay10
/-- The same after the second tile. -/
def max2 (hO : Ok m) (c : Dev nD) : Vec F S1x1 .f32 := maxStep (xH m hO c (pt m hO 1 (by decide))) (xW m hO c (pt m hO 1 (by decide))) (xC m hO c (pt m hO 1 (by decide))) (max1 m hO c)
def sum2 (hO : Ok m) (c : Dev nD) : Vec F S16x1 .f32 := sumStep (jw m hO (pt m hO 1 (by decide))) (ptrs m) (xH m hO c (pt m hO 1 (by decide))) (xW m hO c (pt m hO 1 (by decide))) (xC m hO c (pt m hO 1 (by decide))) (max1 m hO c) (sum1 m hO c)
def acc2 (hO : Ok m) (c : Dev nD) : Vec F S16x128 .f32 := accStep (jw m hO (pt m hO 1 (by decide))) (ptrs m) (xH m hO c (pt m hO 1 (by decide))) (xW m hO c (pt m hO 1 (by decide))) (xC m hO c (pt m hO 1 (by decide))) (max1 m hO c) (acc1 m hO c)

/-- The three carried buffers before point `n`. -/
def sMax (hO : Ok m) (c : Dev nD) (n : ℕ) : Vec F S1x1 .f32 := if n ≤ 1 then max1 m hO c else max2 m hO c
def sSum (hO : Ok m) (c : Dev nD) (n : ℕ) : Vec F S16x1 .f32 := if n ≤ 1 then sum1 m hO c else sum2 m hO c
def sAcc (hO : Ok m) (c : Dev nD) (n : ℕ) : Vec F S16x128 .f32 := if n ≤ 1 then acc1 m hO c else acc2 m hO c

/-- The scores of tile `r`. -/
def tileRow (hO : Ok m) (c : Dev nD) (r : Fin 2) : Vec F S1x16384 .f32 :=
  scoreRow (xH m hO c (pt m hO r.val (by omega))) (xW m hO c (pt m hO r.val (by omega))) (xC m hO c (pt m hO r.val (by omega)))

theorem tileRow_0 (hO : Ok m) (c : Dev nD) : tileRow m hO c 0 = scoreRow (xH m hO c (pt m hO 0 (by decide))) (xW m hO c (pt m hO 0 (by decide))) (xC m hO c (pt m hO 0 (by decide))) := by
  unfold tileRow; rfl

theorem tileRow_1 (hO : Ok m) (c : Dev nD) : tileRow m hO c 1 = scoreRow (xH m hO c (pt m hO 1 (by decide))) (xW m hO c (pt m hO 1 (by decide))) (xC m hO c (pt m hO 1 (by decide))) := by
  unfold tileRow; rfl

/-- The score table before point `n`: the rows of the tiles already seen hold their scores. -/
def TableInv (hO : Ok m) (c : Dev nD) (n : ℕ) (d : Vec F S2x16384 .f32) : Prop :=
  ∀ y : S2x16384.Idx, (y 0).val < n → d y = tileRow m hO c (y 0) (ix2 0 (y 1))

/-- The pooled rows the kernel returns. -/
def hOut (hO : Ok m) (c : Dev nD) : Vec F S16x128 .f32 := k0_pay7 (sum2 m hO c) (acc2 m hO c)
/-- The attention weights of a tile. -/
def alphaOut (hO : Ok m) (c : Dev nD) (r : Fin 2) : Vec F S1x1x16384 .f32 :=
  k0_pay6 (BitVec.ofNat 32 r.val) (loW (F := F) (ptrs m)) (hiW (F := F) (ptrs m)) (sum2 m hO c) (tileRow m hO c r) (max2 m hO c)

/-- The row of the table a point of the second phase reads. -/
theorem row_of_inv (hO : Ok m) (c : Dev nD) (t : Fin (cfgM m hO).N) (n : ℕ) (hn : 2 ≤ n) (d : Vec F S2x16384 .f32) (hd : TableInv m hO c n d)
    (hc2 : cond0_2 (grid0.coords t)) :
    (View.ld d (Rect.unit (k0_off3 (grid0.coords t)) ![1, 16384] (k0_off3_inb (grid0.coords t) hc2)) : Vec F S1x16384 .f32) = tileRow m hO c (grid0.coords t 1) := by
  funext y
  have hy0 : (y 0).val < 1 := (y 0).isLt
  refine (hd _ ?_).trans ?_
  · show k0_off3 (grid0.coords t) 0 + 1 * (y 0).val < n
    have h := (grid0.coords t 1).isLt
    have h' : (grid0.coords t 1).val < 2 := h
    have : k0_off3 (grid0.coords t) 0 = (grid0.coords t 1).val := congrFun (k0_off3_eq (grid0.coords t)) 0
    omega
  · have e0 : (Rect.unit (s := S2x16384) (k0_off3 (grid0.coords t)) ![1, 16384] (k0_off3_inb (grid0.coords t) hc2)).idx y 0 = grid0.coords t 1 := Fin.ext (by
      show k0_off3 (grid0.coords t) 0 + 1 * (y 0).val = (grid0.coords t 1).val
      have : k0_off3 (grid0.coords t) 0 = (grid0.coords t 1).val := congrFun (k0_off3_eq (grid0.coords t)) 0
      omega)
    have e1 : (Rect.unit (s := S2x16384) (k0_off3 (grid0.coords t)) ![1, 16384] (k0_off3_inb (grid0.coords t) hc2)).idx y 1 = y 1 := Fin.ext (by
      show k0_off3 (grid0.coords t) 1 + 1 * (y 1).val = (y 1).val
      have : k0_off3 (grid0.coords t) 1 = 0 := congrFun (k0_off3_eq (grid0.coords t)) 1
      omega)
    have e2 : (ix2 0 ((Rect.unit (s := S2x16384) (k0_off3 (grid0.coords t)) ![1, 16384] (k0_off3_inb (grid0.coords t) hc2)).idx y 1) : S1x16384.Idx) = y :=
      funext (Fin.forall_fin_two.mpr ⟨Fin.ext (show 0 = (y 0).val by omega), e1⟩)
    exact congrArg₂ (fun (a : Fin 2) (b : S1x16384.Idx) => tileRow m hO c a b) e0 e2

/-! ## The invariant and the proof data -/

/-- What the region holds before point `n`. -/
def PhiS (hO : Ok m) (c : Dev nD) : ℕ → sProp 𝕄
  | 0 => iprop(Pipeline.ΦA spec0 c ∗ Pipeline.ΦT pre0 (tbl m) c)
  | n + 1 => iprop(iprop(iprop((∃ d, ⌜TableInv m hO c (n + 1) d⌝ ∗ owns (c : Thread nD τ) scM0_0 fullShare d) ∗ owns (c : Thread nD τ) scM0_1 fullShare (sMax m hO c (n + 1)) ∗ owns (c : Thread nD τ) scM0_2 fullShare (sSum m hO c (n + 1)) ∗ owns (c : Thread nD τ) scM0_3 fullShare (sAcc m hO c (n + 1))) ∗ (∃ r, prngReg c r)) ∗ Pipeline.ΦT pre0 (tbl m) c)

theorem PhiS_zero (hO : Ok m) (c : Dev nD) (n : ℕ) (hz : n = 0) : PhiS m hO c n = iprop(Pipeline.ΦA spec0 c ∗ Pipeline.ΦT pre0 (tbl m) c) := by
  subst hz; rfl

theorem PhiS_pos (hO : Ok m) (c : Dev nD) (n : ℕ) (hz : n ≠ 0) :
    PhiS m hO c n = iprop(iprop(iprop((∃ d, ⌜TableInv m hO c n d⌝ ∗ owns (c : Thread nD τ) scM0_0 fullShare d) ∗ owns (c : Thread nD τ) scM0_1 fullShare (sMax m hO c n) ∗ owns (c : Thread nD τ) scM0_2 fullShare (sSum m hO c n) ∗ owns (c : Thread nD τ) scM0_3 fullShare (sAcc m hO c n)) ∗ (∃ r, prngReg c r)) ∗ Pipeline.ΦT pre0 (tbl m) c) := by
  cases n with
  | zero => exact absurd rfl hz
  | succ n => rfl

/-- The two result windows are held to a predicate. -/
def marked : Fin 5 → Bool := fun w => w.val == 3 || w.val == 4

/-- The proof data: each input window at its block, the two results unnamed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
  Φ t := PhiS m hO c t.val
  q _ := fullShare
  owed _ := 0

/-- What the results hold after a point of the second phase. -/
def Rl (hO : Ok m) (c : Dev nD) (w : Fin (cfgM m hO).W) (t : Fin (cfgM m hO).N) (X : ((cfgM m hO).win w).block.Idx → Elt F ((cfgM m hO).win w).elt) : Prop :=
  match w, X with
  | ⟨3, _⟩, X => 2 ≤ t.val → ∀ j : S16x128.Idx, X j = hOut m hO c j
  | ⟨4, _⟩, X => 2 ≤ t.val → ∀ j : S1x1x16384.Idx, X j = alphaOut m hO c (grid0.coords t 1) j
  | _, _ => True

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) : (dats m hO 0 c).Φ t.castSucc = PhiS m hO c t.val := by
  dsimp only [dats]; rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- The relational data. -/
def rdat (hO : Ok m) (c : Dev nD) : Pipeline.RDat τ (Elt F) Unit ℕ (UR sig nD τ) ℕ (cfgM m hO) c := (dats m hO 0 c).toRRel marked (Rl m hO c)

/-- What the pooled rows' window is found to hold at the last point is what the point before left there. -/
theorem finds3 (hO : Ok m) (c : Dev nD) (t : Fin (cfgM m hO).N) (ht : t.val = 3) (Y) (h : (rdat m hO c).Finds 3 t Y) : Rl m hO c 3 t Y := by
  have hf : ((cfgM m hO).win 3).fetch t = false := rfl
  rcases ((rdat m hO c).finds_of_pos hf (by omega) Y).mp h with h | h
  · have h' := (flush0_3 (adm m hO) _).mp h
    have h'' : (t.val - 1) % 4 = 3 := h'
    omega
  · have hR := Pipeline.Dat.toRRel_leaves (dats m hO 0 c) (fgt := marked) (Rl := Rl m hO c) (w := 3) rfl h
    exact fun _ => hR (by show 2 ≤ t.val - 1; omega)

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ Y, ⌜(rdat m hO c).Finds 3 t Y⌝ ∗ owns (c : Thread nD τ) (ms0_3 m hO t) fullShare Y)
    ∗ (∃ Y, ⌜(rdat m hO c).Finds 4 t Y⌝ ∗ owns (c : Thread nD τ) (ms0_4 m hO t) fullShare Y))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (∃ X, ⌜Rl m hO c 3 t X⌝ ∗ owns (c : Thread nD τ) (ms0_3 m hO t) fullShare X)
    ∗ (∃ X, ⌜Rl m hO c 4 t X⌝ ∗ owns (c : Thread nD τ) (ms0_4 m hO t) fullShare X))

/-- A table filled in both rows stays so. -/
theorem tableInv_succ (hO : Ok m) (c : Dev nD) (n : ℕ) (hn : 2 ≤ n) (d : Vec F S2x16384 .f32) (hd : TableInv m hO c n d) : TableInv m hO c (n + 1) d := fun y _ =>
  hd y (lt_of_lt_of_le (show (y 0).val < 2 from (y 0).isLt) hn)

/-- The table after the first tile. -/
theorem tableInv_A (hO : Ok m) (c : Dev nD) (d : Vec F S2x16384 .f32) (i : ℕ) (hi : i = 0) (y : S2x16384.Idx) (hy : (y 0).val < 1) :
    (if (y 0).val = i then scoreRow (xH m hO c (pt m hO 0 (by decide))) (xW m hO c (pt m hO 0 (by decide))) (xC m hO c (pt m hO 0 (by decide))) (ix2 0 (y 1)) else d y) = tileRow m hO c (y 0) (ix2 0 (y 1)) := by
  have h0 : (y 0 : Fin 2) = (0 : Fin 2) := Fin.ext (show (y 0).val = 0 from Nat.lt_one_iff.mp hy)
  rw [if_pos (by rw [hi]; exact congrArg Fin.val h0)]
  exact (congrFun (tileRow_0 m hO c) (ix2 0 (y 1))).symm.trans (congrArg (fun r : Fin 2 => tileRow m hO c r (ix2 0 (y 1))) h0.symm)

/-- The table after the second tile. -/
theorem tableInv_B (hO : Ok m) (c : Dev nD) (d : Vec F S2x16384 .f32) (hd : TableInv m hO c 1 d) (i : ℕ) (hi : i = 1) (y : S2x16384.Idx) (hy : (y 0).val < 2) :
    (if (y 0).val = i then scoreRow (xH m hO c (pt m hO 1 (by decide))) (xW m hO c (pt m hO 1 (by decide))) (xC m hO c (pt m hO 1 (by decide))) (ix2 0 (y 1)) else d y) = tileRow m hO c (y 0) (ix2 0 (y 1)) := by
  by_cases h : (y 0).val = i
  · have h1 : (y 0 : Fin 2) = (1 : Fin 2) := Fin.ext (show (y 0).val = 1 from h.trans hi)
    rw [if_pos h]
    exact (congrFun (tileRow_1 m hO c) (ix2 0 (y 1))).symm.trans (congrArg (fun r : Fin 2 => tileRow m hO c r (ix2 0 (y 1))) h1.symm)
  · rw [if_neg h]
    exact hd y (by omega)

theorem sMax_two (hO : Ok m) (c : Dev nD) (n : ℕ) (hn : 2 ≤ n) : sMax m hO c n = max2 m hO c := if_neg (by omega)
theorem sSum_two (hO : Ok m) (c : Dev nD) (n : ℕ) (hn : 2 ≤ n) : sSum m hO c n = sum2 m hO c := if_neg (by omega)
theorem sAcc_two (hO : Ok m) (c : Dev nD) (n : ℕ) (hn : 2 ≤ n) : sAcc m hO c n = acc2 m hO c := if_neg (by omega)
theorem sMax_succ (hO : Ok m) (c : Dev nD) (n : ℕ) (hn : 2 ≤ n) : sMax m hO c (n + 1) = sMax m hO c n := by rw [sMax_two m hO c n hn, sMax_two m hO c (n + 1) (by omega)]
theorem sSum_succ (hO : Ok m) (c : Dev nD) (n : ℕ) (hn : 2 ≤ n) : sSum m hO c (n + 1) = sSum m hO c n := by rw [sSum_two m hO c n hn, sSum_two m hO c (n + 1) (by omega)]
theorem sAcc_succ (hO : Ok m) (c : Dev nD) (n : ℕ) (hn : 2 ≤ n) : sAcc m hO c (n + 1) = sAcc m hO c n := by rw [sAcc_two m hO c n hn, sAcc_two m hO c (n + 1) (by omega)]

set_option maxHeartbeats 3200000 in
/-- The body at point 0. -/
theorem sound_A (hO : Ok m) (c : Dev nD) (t : Fin (cfgM m hO).N) (hz : t.val = 0) :
    bodyPre m hO c t ⊢ wp frame (wpE (defs₀ (F := F)) Variants.none c none) Set.univ (bodyAt0 (adm m hO) t) (fun _ => bodyPost m hO c t) := by
  have hi : (grid0.coords t 1).val = t.val % 2 := coord1 t
  have hc0 : cond0_0 (grid0.coords t) := (hcond0_0 t).mpr (by omega)
  have hc1 : cond0_1 (grid0.coords t) := (hcond0_1 t).mpr (by omega)
  have hc2 : ¬cond0_2 (grid0.coords t) := fun h => absurd ((hcond0_2 t).mp h) (by omega)
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) from rfl, PhiS_castSucc m hO c t]
  rw [PhiS_zero m hO c _ hz, PhiS_pos m hO c _ (Nat.succ_ne_zero _), PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  obtain rfl : t = pt m hO 0 (by decide) := Fin.ext hz
  iintro ⟨⟨⟨⟨⟨%ds0, HS0⟩, HS1, HS2, HS3⟩, Hg⟩, HT0⟩, Ho, ⟨%d0, H0⟩, ⟨%d1, H1⟩, ⟨%d2, H2⟩, ⟨%d3, %hd3, H3⟩, ⟨%d4, %hd4, H4⟩⟩
  iapply ((kernelRun0_A c (grid0.coords (pt m hO 0 (by decide))) _ _ _ _ _ _ _ _ _ _ _ _ _ _ _ _ _ _ hc0 hc1 hc2 (iblk m hO c 0 (pt m hO 0 (by decide))) (iblk m hO c 1 (pt m hO 0 (by decide))) (iblk m hO c 2 (pt m hO 0 (by decide))) (tbl m 0) ds0).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HT0]; · iexact HT0
  iintro ⟨H0, H1, H2, ⟨%e3, H3⟩, ⟨%e4, H4⟩, HS0, ⟨%es1, HS1⟩, ⟨%es2, HS2⟩, ⟨%es3, HS3⟩, HT0⟩
  isplitl [HS0 HS1 HS2 HS3 Hg HT0]
  · isplitl [HS0 HS1 HS2 HS3 Hg]
    · isplitl [HS0 HS1 HS2 HS3]
      · isplitl [HS0]
        · iexists _; isplitr
          swap
          · unfold owns; iexists _; isplitr
            swap; · iexact HS0
            ipureintro; rfl
          · ipureintro
            intro y hy
            refine (outA_s c (grid0.coords (pt m hO 0 (by decide))) _ _ _ _ _ _ _ _ _ _ _ _ _ _ _ _ _ _ hc0 hc1 hc2 _ _ _ _ ds0 y).trans ?_
            exact tableInv_A m hO c ds0 _ hi y hy
        isplitl [HS1]
        · unfold owns; iexists _; isplitr
          swap; · iexact HS1
          ipureintro; exact outA_m c (grid0.coords (pt m hO 0 (by decide))) _ _ _ _ _ _ _ _ _ _ _ _ _ _ _ _ _ _ hc0 hc1 hc2 _ _ _ _ ds0 es1
        isplitl [HS2]
        · unfold owns; iexists _; isplitr
          swap; · iexact HS2
          ipureintro; exact outA_l c (grid0.coords (pt m hO 0 (by decide))) _ _ _ _ _ _ _ _ _ _ _ _ _ _ _ _ _ _ hc0 hc1 hc2 _ _ _ _ ds0 es2
        unfold owns; iexists _; isplitr
        swap; · iexact HS3
        ipureintro; exact outA_a c (grid0.coords (pt m hO 0 (by decide))) _ _ _ _ _ _ _ _ _ _ _ _ _ _ _ _ _ _ hc0 hc1 hc2 _ _ _ _ ds0 es3
      iexact Hg
    iexact HT0
  isplitl [Ho]; · iexact Ho
  isplitl [H0]; · iexact H0
  isplitl [H1]; · iexact H1
  isplitl [H2]; · iexact H2
  isplitl [H3]
  · iexists _; isplitr
    swap; · iexact H3
    ipureintro; exact fun h => absurd h (by show ¬2 ≤ 0; decide)
  · iexists _; isplitr
    swap; · iexact H4
    ipureintro; exact fun h => absurd h (by show ¬2 ≤ 0; decide)

set_option maxHeartbeats 3200000 in
/-- The body at point 1. -/
theorem sound_B (hO : Ok m) (c : Dev nD) (t : Fin (cfgM m hO).N) (hz : t.val = 1) :
    bodyPre m hO c t ⊢ wp frame (wpE (defs₀ (F := F)) Variants.none c none) Set.univ (bodyAt0 (adm m hO) t) (fun _ => bodyPost m hO c t) := by
  have hi : (grid0.coords t 1).val = t.val % 2 := coord1 t
  have hc0 : cond0_0 (grid0.coords t) := (hcond0_0 t).mpr (by omega)
  have hc1 : ¬cond0_1 (grid0.coords t) := fun h => absurd ((hcond0_1 t).mp h) (by omega)
  have hc2 : ¬cond0_2 (grid0.coords t) := fun h => absurd ((hcond0_2 t).mp h) (by omega)
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) from rfl, PhiS_castSucc m hO c t]
  rw [PhiS_pos m hO c _ (by omega : t.val ≠ 0), PhiS_pos m hO c _ (Nat.succ_ne_zero _), PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  obtain rfl : t = pt m hO 1 (by decide) := Fin.ext hz
  iintro ⟨⟨⟨⟨⟨%ds0, %hds0, HS0⟩, HS1, HS2, HS3⟩, Hg⟩, HT0⟩, Ho, ⟨%d0, H0⟩, ⟨%d1, H1⟩, ⟨%d2, H2⟩, ⟨%d3, %hd3, H3⟩, ⟨%d4, %hd4, H4⟩⟩
  iapply ((kernelRun0_B c (grid0.coords (pt m hO 1 (by decide))) _ _ _ _ _ _ _ _ _ _ _ _ _ _ _ _ _ _ hc0 hc1 hc2 (iblk m hO c 0 (pt m hO 1 (by decide))) (iblk m hO c 1 (pt m hO 1 (by decide))) (iblk m hO c 2 (pt m hO 1 (by decide))) (tbl m 0) ds0 _ _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HT0]; · iexact HT0
  iintro ⟨H0, H1, H2, ⟨%e3, H3⟩, ⟨%e4, H4⟩, HS0, ⟨%es1, HS1⟩, ⟨%es2, HS2⟩, ⟨%es3, HS3⟩, HT0⟩
  isplitl [HS0 HS1 HS2 HS3 Hg HT0]
  · isplitl [HS0 HS1 HS2 HS3 Hg]
    · isplitl [HS0 HS1 HS2 HS3]
      · isplitl [HS0]
        · iexists _; isplitr
          swap
          · unfold owns; iexists _; isplitr
            swap; · iexact HS0
            ipureintro; rfl
          · ipureintro
            intro y hy
            refine (outB_s c (grid0.coords (pt m hO 1 (by decide))) _ _ _ _ _ _ _ _ _ _ _ _ _ _ _ _ _ _ hc0 hc1 hc2 _ _ _ _ ds0 _ _ _ y).trans ?_
            exact tableInv_B m hO c ds0 hds0 _ hi y hy
        isplitl [HS1]
        · unfold owns; iexists _; isplitr
          swap; · iexact HS1
          ipureintro; exact outB_m c (grid0.coords (pt m hO 1 (by decide))) _ _ _ _ _ _ _ _ _ _ _ _ _ _ _ _ _ _ hc0 hc1 hc2 _ _ _ _ ds0 _ _ _ es1
        isplitl [HS2]
        · unfold owns; iexists _; isplitr
          swap; · iexact HS2
          ipureintro; exact outB_l c (grid0.coords (pt m hO 1 (by decide))) _ _ _ _ _ _ _ _ _ _ _ _ _ _ _ _ _ _ hc0 hc1 hc2 _ _ _ _ ds0 _ _ _ es2
        unfold owns; iexists _; isplitr
        swap; · iexact HS3
        ipureintro; exact outB_a c (grid0.coords (pt m hO 1 (by decide))) _ _ _ _ _ _ _ _ _ _ _ _ _ _ _ _ _ _ hc0 hc1 hc2 _ _ _ _ ds0 _ _ _ es3
      iexact Hg
    iexact HT0
  isplitl [Ho]; · iexact Ho
  isplitl [H0]; · iexact H0
  isplitl [H1]; · iexact H1
  isplitl [H2]; · iexact H2
  isplitl [H3]
  · iexists _; isplitr
    swap; · iexact H3
    ipureintro; exact fun h => absurd h (by show ¬2 ≤ 1; decide)
  · iexists _; isplitr
    swap; · iexact H4
    ipureintro; exact fun h => absurd h (by show ¬2 ≤ 1; decide)

set_option maxHeartbeats 3200000 in
/-- The body at point 2. -/
theorem sound_C (hO : Ok m) (c : Dev nD) (t : Fin (cfgM m hO).N) (hz : t.val = 2) :
    bodyPre m hO c t ⊢ wp frame (wpE (defs₀ (F := F)) Variants.none c none) Set.univ (bodyAt0 (adm m hO) t) (fun _ => bodyPost m hO c t) := by
  have hi : (grid0.coords t 1).val = t.val % 2 := coord1 t
  have hc0 : ¬cond0_0 (grid0.coords t) := fun h => absurd ((hcond0_0 t).mp h) (by omega)
  have hc2 : cond0_2 (grid0.coords t) := (hcond0_2 t).mpr (by omega)
  have hc3 : cond0_3 (grid0.coords t) := (hcond0_3 t).mpr (by omega)
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) from rfl, PhiS_castSucc m hO c t]
  rw [PhiS_pos m hO c _ (by omega : t.val ≠ 0), PhiS_pos m hO c _ (Nat.succ_ne_zero _), PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  iintro ⟨⟨⟨⟨⟨%ds0, %hds0, HS0⟩, HS1, HS2, HS3⟩, Hg⟩, HT0⟩, Ho, ⟨%d0, H0⟩, ⟨%d1, H1⟩, ⟨%d2, H2⟩, ⟨%d3, %hd3, H3⟩, ⟨%d4, %hd4, H4⟩⟩
  iapply ((kernelRun0_C c (grid0.coords t) _ _ _ _ _ _ _ _ _ _ _ _ _ _ _ _ _ _ hc0 hc2 hc3 (iblk m hO c 0 t) (iblk m hO c 1 t) (iblk m hO c 2 t) (tbl m 0) ds0 _ _ _).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HT0]; · iexact HT0
  iintro ⟨H0, H1, H2, ⟨%e3, H3⟩, ⟨%e4, H4⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexists _; isplitr
          swap; · iexact HS0
          ipureintro; exact tableInv_succ m hO c t.val (by omega) ds0 hds0
        rw [sMax_succ m hO c t.val (by omega), sSum_succ m hO c t.val (by omega), sAcc_succ m hO c t.val (by omega)]
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]
  · iexists _; isplitr
    swap
    · unfold owns; iexists _; isplitr
      swap; · iexact H3
      ipureintro; rfl
    ipureintro
    intro _ j
    refine (congrFun (outC_h c (grid0.coords t) _ _ _ _ _ _ _ _ _ _ _ _ _ _ _ _ _ _ hc0 hc2 hc3 _ _ _ _ ds0 _ _ _ e3) j).trans ?_
    unfold hOut
    rw [sSum_two m hO c t.val (by omega), sAcc_two m hO c t.val (by omega)]
  iexists _; isplitr
  swap
  · unfold owns; iexists _; isplitr
    swap; · iexact H4
    ipureintro; rfl
  ipureintro
  intro _ j
  refine (congrFun (outC_al c (grid0.coords t) _ _ _ _ _ _ _ _ _ _ _ _ _ _ _ _ _ _ hc0 hc2 hc3 _ _ _ _ ds0 _ _ _ e4) j).trans ?_
  rw [row_of_inv m hO c t t.val (by omega) ds0 hds0 hc2, sSum_two m hO c t.val (by omega), sMax_two m hO c t.val (by omega)]
  rfl

set_option maxHeartbeats 3200000 in
/-- The body at point 3. -/
theorem sound_D (hO : Ok m) (c : Dev nD) (t : Fin (cfgM m hO).N) (hz : t.val = 3) :
    bodyPre m hO c t ⊢ wp frame (wpE (defs₀ (F := F)) Variants.none c none) Set.univ (bodyAt0 (adm m hO) t) (fun _ => bodyPost m hO c t) := by
  have hi : (grid0.coords t 1).val = t.val % 2 := coord1 t
  have hc0 : ¬cond0_0 (grid0.coords t) := fun h => absurd ((hcond0_0 t).mp h) (by omega)
  have hc2 : cond0_2 (grid0.coords t) := (hcond0_2 t).mpr (by omega)
  have hc3 : ¬cond0_3 (grid0.coords t) := fun h => absurd ((hcond0_3 t).mp h) (by omega)
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) from rfl, PhiS_castSucc m hO c t]
  rw [PhiS_pos m hO c _ (by omega : t.val ≠ 0), PhiS_pos m hO c _ (Nat.succ_ne_zero _), PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  iintro ⟨⟨⟨⟨⟨%ds0, %hds0, HS0⟩, HS1, HS2, HS3⟩, Hg⟩, HT0⟩, Ho, ⟨%d0, H0⟩, ⟨%d1, H1⟩, ⟨%d2, H2⟩, ⟨%d3, %hd3, H3⟩, ⟨%d4, %hd4, H4⟩⟩
  iapply ((kernelRun0_D c (grid0.coords t) _ _ _ _ _ _ _ _ _ _ _ _ _ _ _ _ _ _ hc0 hc2 hc3 (iblk m hO c 0 t) (iblk m hO c 1 t) (iblk m hO c 2 t) (tbl m 0) _ ds0 _ _ _).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HT0]; · iexact HT0
  iintro ⟨H0, H1, H2, H3, ⟨%e4, H4⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexists _; isplitr
          swap; · iexact HS0
          ipureintro; exact tableInv_succ m hO c t.val (by omega) ds0 hds0
        rw [sMax_succ m hO c t.val (by omega), sSum_succ m hO c t.val (by omega), sAcc_succ m hO c t.val (by omega)]
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]
  · iexists _; isplitr
    swap; · iexact H3
    ipureintro; exact finds3 m hO c t hz d3 hd3
  iexists _; isplitr
  swap
  · unfold owns; iexists _; isplitr
    swap; · iexact H4
    ipureintro; rfl
  ipureintro
  intro _ j
  refine (congrFun (outD_al c (grid0.coords t) _ _ _ _ _ _ _ _ _ _ _ _ _ _ _ _ _ _ hc0 hc2 hc3 _ _ _ _ _ ds0 _ _ _ e4) j).trans ?_
  rw [row_of_inv m hO c t t.val (by omega) ds0 hds0 hc2, sSum_two m hO c t.val (by omega), sMax_two m hO c t.val (by omega)]
  rfl

end Cert.KernelIdeal.Gen

end
-- ==== Proof.KRun.lean ====
/- The run of the whole program: its obligation, its launch, and what the two results hold at the end. -/
module

public import proofs.«01_k».proof.Proof.KBody
public import Idealize.ShloMosaic.Lib.Claim
public import Idealize.ShloMosaic.Lib.Pipeline.DatRel
public import Idealize.ShloMosaic.Lib.Pipeline.ArrRel
public import Idealize.ShloMosaic.Lib.Pipeline.ValueKit
public import Idealize.ShloMosaic.Lib.Pipeline.ReadBack
public import Idealize.ShloMosaic.Lib.Pointwise
public import Idealize.ShloMosaic.Lib.WritesUnit

@[expose] public section

-- the long axes have 16384 coordinates
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The obligation, the launch and what the results hold -/

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hN : t.val < 4 := lt_of_lt_of_eq t.isLt (show (cfgM m hO).N = 4 from N_0)
  obtain h | h | h | h : t.val = 0 ∨ t.val = 1 ∨ t.val = 2 ∨ t.val = 3 := by omega
  · exact sound_A m hO c t h
  · exact sound_B m hO c t h
  · exact sound_C m hO c t h
  · exact sound_D m hO c t h

theorem body_obligation (hO : Ok m) (c : Dev nD) : Pipeline.BodyObligationRel (dats (F := F) m hO 0 c) (defs₀ (F := F)) Variants.none () Set.univ marked (Rl m hO c) := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiS_zero m hO c 0 rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl,
    PhiS_pos m hO c _ (by rw [Fin.val_last]; have : (cfgM m hO).N = 4 := N_0; omega), PhiA0_eq]
  iintro ⟨⟨⟨⟨%d, -, HS0⟩, HS1, HS2, HS3⟩, Hg⟩, -⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The launch. -/
theorem run_main (hO : Ok m) : θ_run defs (onTc (τ := τ) (main (F := F))) (s₀ m ρ) (fun r => (Pipeline.RDat.FramePost ((Pipeline.pin pcfgs fun _ => adm m hO) 0) (fun c => rdat m hO c) (V m)) r ∧ r.2.sem = fun _ => 0) :=
  Pipeline.RDat.θ_run_frameP_track (Q' := _) pcfgs (fun _ => adm m hO) (0 : Fin 1) launch0 defs₀ Variants.none (fun c => rdat m hO c) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m) (hin := hin m hO) (hout := hout m hO)

/-- The last write-back of an element is the one it keeps. -/
theorem arrAt_last (hO : Ok m) (c : Dev nD) (dat : Dat τ (Elt F) Unit ℕ (UR sig nD τ) ℕ (cfgM m hO) c) (w : Fin (cfgM m hO).W) (t₀ : Fin (cfgM m hO).N)
    (hf : ((cfgM m hO).win w).flush t₀ = true) (y : (((cfgM m hO).win w).xblock ((cfgM m hO).grid.coords t₀)).Idx)
    (hlast : ∀ t : Fin (cfgM m hO).N, t₀.val < t.val → (((cfgM m hO).win w).blk t₀).view.emb y ∉ (((cfgM m hO).win w).blk t).view.set) :
    dat.arrAt w (cfgM m hO).N ((((cfgM m hO).win w).blk t₀).view.emb y)
      = _root_.cast (congrArg (Elt F) (((cfgM m hO).win w).blk t₀).view.elt_eq.symm) (dat.flushed w t₀ y) := by
  have key : ∀ k, t₀.val + 1 + k ≤ (cfgM m hO).N → dat.arrAt w (t₀.val + 1 + k) ((((cfgM m hO).win w).blk t₀).view.emb y)
      = _root_.cast (congrArg (Elt F) (((cfgM m hO).win w).blk t₀).view.elt_eq.symm) (dat.flushed w t₀ y) := by
    intro k
    induction k with
    | zero =>
      intro _
      rw [Nat.add_zero, dat.arrAt_succ_apply, dif_pos t₀.isLt, if_pos hf]
      exact View.write_emb_of_mem _ _ (Finset.mem_univ y)
    | succ k ih =>
      intro hk
      have hk' : t₀.val + 1 + k < (cfgM m hO).N := by omega
      rw [show t₀.val + 1 + (k + 1) = (t₀.val + 1 + k) + 1 from rfl, dat.arrAt_succ_apply, dif_pos hk']
      split
      · rw [View.write_of_not_mem _ _ _ (by rw [View.setOn_univ]; exact hlast ⟨_, hk'⟩ (by show t₀.val < t₀.val + 1 + k; omega))]
        exact ih (by omega)
      · exact ih (by omega)
  have := key ((cfgM m hO).N - (t₀.val + 1)) (by have := t₀.isLt; omega)
  rwa [show t₀.val + 1 + ((cfgM m hO).N - (t₀.val + 1)) = (cfgM m hO).N from by have := t₀.isLt; omega] at this

theorem wholeAt3 (hO : Ok m) : ((cfgM m hO).win 3).WholeAt (pt m hO 3 (by decide)) := by
  refine ⟨(flush0_3 (adm m hO) _).mpr rfl, fun t ht => Fin.ext ?_, fun a => ?_⟩
  · have h := (flush0_3 (adm m hO) t).mp ht
    have hN : t.val < 4 := lt_of_lt_of_eq t.isLt (show (cfgM m hO).N = 4 from N_0)
    show t.val = 3
    omega
  · revert a
    exact Fin.forall_fin_two.mpr ⟨⟨rfl, rfl⟩, ⟨rfl, rfl⟩⟩

/-- Window 4's block number on each axis. -/
theorem index4 (hO : Ok m) : ∀ t : Fin (cfgM m hO).N, ((cfgM m hO).win 4).index t = ![(grid0.coords t 1).val, 0, 0] := by
  have h : ∀ t : Fin grid0.N, cc0_transform_4 (grid0.coords t) = ![(grid0.coords t 1).val, 0, 0] := by decide
  exact h

/-- What the body may leave in the two result windows. -/
theorem leaves3 (hO : Ok m) (c : Dev nD) (t : Fin (cfgM m hO).N) (ht : 2 ≤ t.val) (X) (h : (rdat m hO c).Leaves 3 t X) (j : S16x128.Idx) : X j = hOut m hO c j :=
  Pipeline.Dat.toRRel_leaves (dats m hO 0 c) (fgt := marked) (Rl := Rl m hO c) (w := 3) rfl h ht j
theorem leaves4 (hO : Ok m) (c : Dev nD) (t : Fin (cfgM m hO).N) (ht : 2 ≤ t.val) (X) (h : (rdat m hO c).Leaves 4 t X) (j : S1x1x16384.Idx) : X j = alphaOut m hO c (grid0.coords t 1) j :=
  Pipeline.Dat.toRRel_leaves (dats m hO 0 c) (fgt := marked) (Rl := Rl m hO c) (w := 4) rfl h ht j

/-- The pooled rows at the end. -/
theorem mem_h (hO : Ok m) (c : Dev nD) (r : PUnit × MemSt nD τ sig (Elt F))
    (h : Pipeline.RDat.FramePost ((Pipeline.pin pcfgs fun _ => adm m hO) 0) (fun c => rdat m hO c) (V m) r) (j : S16x128.Idx) :
    r.2.mem ((c.tc : Thread nD τ).loc main_v1_0) j = hOut m hO c j := by
  obtain ⟨X, hX, hG⟩ := Pipeline.RDat.ArrAt.emb_eq_of_wholeAt ((h c).1 (3 : Fin 5)) (wholeAt3 m hO)
  exact (hG j).trans (leaves3 m hO c _ (by show 2 ≤ 3; omega) X hX j)

/-- The attention weights at the end: tile `r`'s at row `r`. -/
theorem mem_alpha (hO : Ok m) (c : Dev nD) (r : PUnit × MemSt nD τ sig (Elt F))
    (h : Pipeline.RDat.FramePost ((Pipeline.pin pcfgs fun _ => adm m hO) 0) (fun c => rdat m hO c) (V m) r) (a : Fin 2) (k : Fin 16384) :
    r.2.mem ((c.tc : Thread nD τ).loc main_v1_1) (ix3 a 0 k : S2x1x16384.Idx) = alphaOut m hO c a (ix3 0 0 k) := by
  obtain ⟨after, hL, hA⟩ := Pipeline.RDat.FramePost.exists_exact h c
  have ha : 2 + a.val < 4 := by omega
  have hT2 : 2 ≤ (pt m hO (2 + a.val) ha).val := Nat.le_add_right _ _
  have hca : (grid0.coords (pt m hO (2 + a.val) ha) 1) = a := Fin.ext ((coord1 _).trans (show (2 + a.val) % 2 = a.val by omega))
  have e : (((cfgM m hO).win 4).rect (pt m hO (2 + a.val) ha)).emb (ix3 0 0 k : S1x1x16384.Idx) = (ix3 a 0 k : S2x1x16384.Idx) := by
    have hix := index4 m hO (pt m hO (2 + a.val) ha)
    rw [hca] at hix
    funext b
    apply Fin.ext
    refine (((cfgM m hO).win 4).rect_emb_val _ _ b).trans ?_
    rw [hix]
    revert b
    refine Fin.forall_fin_succ.mpr ⟨?_, Fin.forall_fin_succ.mpr ⟨?_, Fin.forall_fin_succ.mpr ⟨?_, fun z => z.elim0⟩⟩⟩
    · show a.val * 1 + 0 = a.val
      omega
    · rfl
    · show 0 * 16384 + k.val = k.val
      omega
  have hl : ∀ t : Fin (cfgM m hO).N, (pt m hO (2 + a.val) ha).val < t.val →
      (((cfgM m hO).win 4).blk (pt m hO (2 + a.val) ha)).view.emb (ix3 0 0 k : S1x1x16384.Idx) ∉ (((cfgM m hO).win 4).blk t).view.set := by
    intro t ht hmem
    have ht' : 2 + a.val < t.val := ht
    have hN : t.val < 4 := lt_of_lt_of_eq t.isLt (show (cfgM m hO).N = 4 from N_0)
    have hm : ((cfgM m hO).win 4).arr.view.emb ((((cfgM m hO).win 4).rect (pt m hO (2 + a.val) ha)).emb (ix3 0 0 k : S1x1x16384.Idx)) ∈ (((cfgM m hO).win 4).blk t).view.set := hmem
    rw [e] at hm
    have h0 := ((((cfgM m hO).win 4).emb_mem_blk_iff t (ix3 a 0 k : S2x1x16384.Idx)).mp hm (0 : Fin 3)).1
    rw [index4 m hO t] at h0
    have h1 : (grid0.coords t 1).val * 1 ≤ a.val := h0
    have h2 := coord1 t
    omega
  have h4 := arrAt_last m hO c ((rdat m hO c).withAfter after) 4 (pt m hO (2 + a.val) ha) (flush0_4 (adm m hO) _) (ix3 0 0 k : S1x1x16384.Idx) hl
  have h5 := leaves4 m hO c (pt m hO (2 + a.val) ha) hT2 _ (hL (4 : Fin 5) (pt m hO (2 + a.val) ha) (flush0_4 (adm m hO) _)) (ix3 0 0 k)
  rw [hca] at h5
  refine (congrFun (hA (4 : Fin 5)) _).trans ?_
  have e' : (((cfgM m hO).win 4).blk (pt m hO (2 + a.val) ha)).view.emb (ix3 0 0 k : S1x1x16384.Idx) = (ix3 a 0 k : S2x1x16384.Idx) :=
    congrArg (fun z => ((cfgM m hO).win 4).arr.view.emb z) e
  exact (congrArg (((rdat m hO c).withAfter after).arrAt 4 (cfgM m hO).N) e'.symm).trans (h4.trans h5)

/-- THE RUN: the two results at the end, the arguments unchanged, the counters at zero. -/
theorem run_values (hO : Ok m) : θ_run defs (onTc (τ := τ) (main (F := F))) ⟨m, fun _ => 0, ρ⟩ (fun r => (∀ c : Dev nD,
      (∀ j : S16x128.Idx, r.2.mem ((c.tc : Thread nD τ).loc main_v1_0) j = hOut m hO c j)
      ∧ (∀ (a : Fin 2) (k : Fin 16384), r.2.mem ((c.tc : Thread nD τ).loc main_v1_1) (ix3 a 0 k : S2x1x16384.Idx) = alphaOut m hO c a (ix3 0 0 k)))
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun r h c => ⟨mem_h m hO c r h.1, mem_alpha m hO c r h.1⟩) (run_main m ρ hO))
    (θ_run_and (frame_of m ρ hO (fun c => rdat m hO c) (A_eq m hO) ((θ_run defs _ _).mono (fun _ h => h.1) (run_main m ρ hO)))
      ((θ_run defs _ _).mono (fun _ h => h.2) (run_main m ρ hO)))

end Cert.KernelIdeal.Gen

end
-- ==== Proof.Spec.lean ====
/- What both programs compute, as plain mathematics: pointers cut the tokens into segments, a token's weight is the
   exponential of its score over its segment's total, and a segment's pooled row is its tokens' weighted sum. -/
module

public import Idealize.ShloMosaic.Lib.Pointwise

@[expose] public section

noncomputable section

namespace Cert.AttnPool

open Idealize.ShloMosaic

/-! ## Segments -/

/-- Token `t` lies in segment `i`. -/
def InSeg (p : Fin 17 → BitVec 32) (i : Fin 16) (t : ℕ) : Prop := (p i.castSucc).toInt ≤ (t : ℤ) ∧ (t : ℤ) < (p i.succ).toInt

instance (p : Fin 17 → BitVec 32) (i : Fin 16) (t : ℕ) : Decidable (InSeg p i t) := by unfold InSeg; infer_instance

/-- The pointers start at zero, do not decrease and end at the number of tokens. -/
structure Cuts (p : Fin 17 → BitVec 32) : Prop where
  first : p 0 = 0#32
  last : p 16 = 32768#32
  step : ∀ i : Fin 16, (p i.castSucc).toInt ≤ (p i.succ).toInt

theorem Cuts.mono {p : Fin 17 → BitVec 32} (h : Cuts p) : Monotone fun k => (p k).toInt := Fin.monotone_iff_le_succ.2 h.step

/-- A token lies in one segment only. -/
theorem Cuts.unique {p : Fin 17 → BitVec 32} (h : Cuts p) {i i' : Fin 16} {t : ℕ} (hi : InSeg p i t) (hi' : InSeg p i' t) : i = i' := by
  have aux : ∀ a b : Fin 16, InSeg p a t → InSeg p b t → ¬a < b := fun a b ha hb hab => by
    have e : (p a.succ).toInt ≤ (p b.castSucc).toInt := h.mono (show a.succ ≤ b.castSucc by rw [Fin.le_def]; simp; exact hab)
    have := ha.2; have := hb.1; omega
  exact le_antisymm (not_lt.1 (aux _ _ hi' hi)) (not_lt.1 (aux _ _ hi hi'))

/-- Every token lies in a segment. -/
theorem Cuts.exists_seg {p : Fin 17 → BitVec 32} (h : Cuts p) {t : ℕ} (ht : t < 32768) : ∃ i, InSeg p i t := by
  by_contra hn
  have hn' : ∀ i, ¬InSeg p i t := fun i hi => hn ⟨i, hi⟩
  have all : ∀ k : Fin 17, (p k).toInt ≤ (t : ℤ) := fun k => by
    induction k using Fin.induction with
    | zero => rw [h.first]; simp
    | succ i ih => by_contra hc; exact hn' i ⟨ih, by omega⟩
  have := all 16
  rw [h.last] at this
  have e : (32768#32 : BitVec 32).toInt = 32768 := by decide
  omega

/-! ## Weights and pooled rows -/

/-- The total of a segment. -/
def mass (p : Fin 17 → BitVec 32) (s : ℕ → ℝ) (i : Fin 16) : ℝ := ∑ u ∈ Finset.range 32768, if InSeg p i u then Real.exp (s u) else 0
/-- The weight of a token. -/
def weight (p : Fin 17 → BitVec 32) (s : ℕ → ℝ) (t : ℕ) : ℝ := ∑ i : Fin 16, if InSeg p i t then Real.exp (s t) / mass p s i else 0
/-- The pooled row of a segment. -/
def pooled (p : Fin 17 → BitVec 32) (s : ℕ → ℝ) (H : ℕ → Fin 128 → EReal) (i : Fin 16) (d : Fin 128) : EReal :=
  ∑ t ∈ Finset.range 32768, ((if InSeg p i t then weight p s t else 0 : ℝ) : EReal) * H t d

/-- A segment's total, every score less a constant. -/
def massAt (p : Fin 17 → BitVec 32) (s : ℕ → ℝ) (c : ℝ) (i : Fin 16) : ℝ :=
  ∑ u ∈ Finset.range 32768, if InSeg p i u then Real.exp (s u - c) else 0

theorem massAt_eq (p : Fin 17 → BitVec 32) (s : ℕ → ℝ) (c : ℝ) (i : Fin 16) : massAt p s c i = mass p s i * Real.exp (-c) := by
  unfold massAt mass
  rw [Finset.sum_mul]
  refine Finset.sum_congr rfl fun u _ => ?_
  split
  · rw [← Real.exp_add, sub_eq_add_neg]
  · rw [zero_mul]

theorem massAt_nonneg (p : Fin 17 → BitVec 32) (s : ℕ → ℝ) (c : ℝ) (i : Fin 16) : 0 ≤ massAt p s c i :=
  Finset.sum_nonneg fun u _ => by split; exacts [(Real.exp_pos _).le, le_rfl]

theorem massAt_pos (p : Fin 17 → BitVec 32) (s : ℕ → ℝ) (c : ℝ) {i : Fin 16} {t : ℕ} (ht : t < 32768) (h : InSeg p i t) : 0 < massAt p s c i := by
  refine Finset.sum_pos' (fun u _ => by split; exacts [(Real.exp_pos _).le, le_rfl]) ⟨t, Finset.mem_range.2 ht, ?_⟩
  rw [if_pos h]
  exact Real.exp_pos _

theorem weight_of {p : Fin 17 → BitVec 32} (hp : Cuts p) (s : ℕ → ℝ) {i : Fin 16} {t : ℕ} (h : InSeg p i t) :
    weight p s t = Real.exp (s t) / mass p s i := by
  unfold weight
  rw [Finset.sum_eq_single i (fun b _ hb => if_neg fun hb' => hb (hp.unique hb' h)) (fun hi => absurd (Finset.mem_univ i) hi), if_pos h]

/-- The weight does not depend on a constant taken off every score. -/
theorem weight_shift {p : Fin 17 → BitVec 32} (hp : Cuts p) (s : ℕ → ℝ) (c : ℝ) {i : Fin 16} {t : ℕ} (h : InSeg p i t) :
    weight p s t = Real.exp (s t - c) / massAt p s c i := by
  rw [weight_of hp s h, massAt_eq, sub_eq_add_neg, Real.exp_add, mul_div_mul_right _ _ (Real.exp_pos _).ne']

/-! ## Sums of extended reals -/

theorem coe_sum {ι : Type*} (S : Finset ι) (f : ι → ℝ) : ((∑ x ∈ S, f x : ℝ) : EReal) = ∑ x ∈ S, (f x : EReal) := by
  classical
  induction S using Finset.induction with
  | empty => simp
  | insert a S ha ih => rw [Finset.sum_insert ha, Finset.sum_insert ha, EReal.coe_add, ih]

/-- A factor that is a nonnegative real goes through a sum. -/
theorem sum_mul_real {ι : Type*} (S : Finset ι) (f : ι → EReal) (c : ℝ) (hc : 0 ≤ c) : (∑ x ∈ S, f x) * (c : EReal) = ∑ x ∈ S, f x * (c : EReal) := by
  classical
  induction S using Finset.induction with
  | empty => simp
  | insert a S ha ih =>
    rw [Finset.sum_insert ha, Finset.sum_insert ha, ← ih]
    exact EReal.right_distrib_of_nonneg_of_ne_top (EReal.coe_nonneg.2 hc) (EReal.coe_ne_top c) _ _

/-- The same when every term has a real factor. -/
theorem sum_scaled {ι : Type*} (S : Finset ι) (a : ι → ℝ) (f : ι → EReal) (c : ℝ) (hc : 0 ≤ c) :
    (∑ x ∈ S, (a x : EReal) * f x) * (c : EReal) = ∑ x ∈ S, ((a x * c : ℝ) : EReal) * f x := by
  rw [sum_mul_real S _ c hc]
  refine Finset.sum_congr rfl fun x _ => ?_
  rw [EReal.coe_mul, mul_assoc, mul_comm (f x), ← mul_assoc]

/-- A sum over four runs of one length, a run at a time. -/
theorem sum_four {M : Type*} [AddCommMonoid M] (n : ℕ) (f : ℕ → M) :
    ∑ t ∈ Finset.range (n + n + n + n), f t
      = (∑ x : Fin n, f x.val + ∑ x : Fin n, f (n + x.val)) + (∑ x : Fin n, f (n + n + x.val) + ∑ x : Fin n, f (n + n + n + x.val)) := by
  rw [Finset.sum_range_add, Finset.sum_range_add, Finset.sum_range_add]
  rw [Fin.sum_univ_eq_sum_range f, Fin.sum_univ_eq_sum_range fun x => f (n + x), Fin.sum_univ_eq_sum_range fun x => f (n + n + x),
    Fin.sum_univ_eq_sum_range fun x => f (n + n + n + x), add_assoc]

/-- The tokens in four runs of 8192. -/
theorem sum_runs {M : Type*} [AddCommMonoid M] (f : ℕ → M) :
    ∑ t ∈ Finset.range 32768, f t
      = (∑ x : Fin 8192, f x.val + ∑ x : Fin 8192, f (8192 + x.val)) + (∑ x : Fin 8192, f (16384 + x.val) + ∑ x : Fin 8192, f (24576 + x.val)) :=
  sum_four 8192 f

/-! ## Scores -/

/-- The hyperbolic tangent of any extended real is real. -/
theorem tanh_real (x : EReal) : ∃ r : ℝ, Ideal.tanh x = (r : EReal) := by
  induction x using EReal.rec with
  | bot => exact ⟨-1, show Ideal.tanh _ = _ from by first | rfl | (rw [EReal.coe_neg, EReal.coe_one]; rfl) | (rw [EReal.coe_one]; rfl)⟩
  | top => exact ⟨1, show Ideal.tanh _ = _ from by first | rfl | (rw [EReal.coe_neg, EReal.coe_one]; rfl) | (rw [EReal.coe_one]; rfl)⟩
  | coe r => exact ⟨Real.tanh r, rfl⟩

/-- A sum of products of real entries with hyperbolic tangents is real. -/
theorem score_real (c : Fin 128 → EReal) (z : Fin 128 → EReal) (hc : ∀ d, c d ≠ ⊥ ∧ c d ≠ ⊤) :
    ((∑ d, c d * Ideal.tanh (z d)).toReal : EReal) = ∑ d, c d * Ideal.tanh (z d) := by
  have key : ∃ r : ℝ, (r : EReal) = ∑ d, c d * Ideal.tanh (z d) := by
    choose g hg using fun d => tanh_real (z d)
    refine ⟨∑ d, (c d).toReal * g d, ?_⟩
    rw [coe_sum]
    refine Finset.sum_congr rfl fun d _ => ?_
    rw [EReal.coe_mul, EReal.coe_toReal (hc d).2 (hc d).1, hg]
  obtain ⟨r, hr⟩ := key
  rw [← hr, EReal.toReal_coe]

/-- The greater of reals from a real is real. -/
theorem max_real {x y : EReal} (hx : ∃ r : ℝ, x = r) (hy : y ≠ ⊤) : ∃ r : ℝ, max x y = r := by
  obtain ⟨r, rfl⟩ := hx
  refine ⟨(max (r : EReal) y).toReal, (EReal.coe_toReal ?_ ?_).symm⟩
  · exact (max_lt (EReal.coe_lt_top r) (lt_top_iff_ne_top.2 hy)).ne
  · exact (lt_of_lt_of_le (EReal.bot_lt_coe r) (le_max_left _ _)).ne'

/-- The greatest of finitely many reals is not infinite. -/
theorem fold_max_ne_top {ι : Type*} (S : Finset ι) (f : ι → EReal) (b : EReal) (hb : b ≠ ⊤) (hf : ∀ x ∈ S, f x ≠ ⊤) : S.fold max b f ≠ ⊤ :=
  (Finset.fold_max_lt ⊤ |>.2 ⟨lt_top_iff_ne_top.2 hb, fun x hx => lt_top_iff_ne_top.2 (hf x hx)⟩).ne

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

/-- The rows of the tokens, by number. -/
def rowOf (x : Fin 32768 → Fin 128 → EReal) (t : ℕ) (d : Fin 128) : EReal := if h : t < 32768 then x ⟨t, h⟩ d else 0
/-- The score of a token. -/
def scoreOf (x : Fin 32768 → Fin 128 → EReal) (w : Fin 128 → Fin 128 → EReal) (c : Fin 128 → EReal) (t : ℕ) : ℝ :=
  (∑ d, c d * Ideal.tanh (∑ e, w d e * rowOf x t e)).toReal

theorem rowOf_lt (x : Fin 32768 → Fin 128 → EReal) (t : ℕ) (h : t < 32768) (d : Fin 128) : rowOf x t d = x ⟨t, h⟩ d := dif_pos h

theorem scoreOf_coe (x : Fin 32768 → Fin 128 → EReal) (w : Fin 128 → Fin 128 → EReal) (c : Fin 128 → EReal) (hc : ∀ d, c d ≠ ⊥ ∧ c d ≠ ⊤) (t : ℕ) (h : t < 32768) :
    (scoreOf x w c t : EReal) = ∑ d, c d * Ideal.tanh (∑ e, w d e * x ⟨t, h⟩ e) := by
  unfold scoreOf
  rw [score_real c _ hc]
  simp only [rowOf_lt x t h]

end Cert.AttnPool
-- ==== Proof.KPay.lean ====
/- The kernel's pure values read at an index, over the extended reals. -/
module

public import proofs.«01_k».proof.Proof.Gen.KernelIdeal.Skeleton
public import Idealize.ShloMosaic.Lib.Pointwise
public import Idealize.ShloMosaic.Lib.WordCmp
public import Idealize.ShloMosaic.Lib.StableHlo.Predicate
public import proofs.«01_k».proof.Proof.Spec

@[expose] public section

set_option maxRecDepth 16384

noncomputable section

namespace Cert.KernelIdeal.Gen

open Idealize.ShloMosaic Idealize.SL.Sem

theorem pay14_at (x1 : Vec Ideal S128x128 .f32) (x2 : Vec Ideal S1x128 .f32) (u : Vec Ideal S8192x128 .f32) (k : Fin 8192) :
    k0_pay14 x1 x2 u (ix2 0 k) = ∑ d : Fin 128, x2 (ix2 0 d) * Ideal.tanh (∑ e : Fin 128, x1 (ix2 d e) * u (ix2 k e)) := by
  pointwise [k0_pay14, k0_pay11, k0_pay12, k0_pay13]

theorem pay17_at (x1 : Vec Ideal S128x128 .f32) (x2 : Vec Ideal S1x128 .f32) (u : Vec Ideal S8192x128 .f32) (k : Fin 8192) :
    k0_pay17 x1 x2 u (ix2 0 k) = ∑ d : Fin 128, x2 (ix2 0 d) * Ideal.tanh (∑ e : Fin 128, x1 (ix2 d e) * u (ix2 k e)) := by
  pointwise [k0_pay17, k0_pay11, k0_pay12, k0_pay16]

theorem pay15_at (x1 : Vec Ideal S128x128 .f32) (x2 : Vec Ideal S1x128 .f32) (u : Vec Ideal S8192x128 .f32) (k : Fin 8192) :
    k0_pay15 x1 x2 u (ix2 0 k) = k0_pay14 x1 x2 u (ix2 0 k) := by
  pointwise [k0_pay15]
theorem pay18_at (x1 : Vec Ideal S128x128 .f32) (x2 : Vec Ideal S1x128 .f32) (u : Vec Ideal S8192x128 .f32) (k : Fin 8192) :
    k0_pay18 x1 x2 u (ix2 0 k) = k0_pay17 x1 x2 u (ix2 0 k) := by
  pointwise [k0_pay18]

/-! ## The running maximum, sums and pooled rows -/

theorem pay19_at (x1 : Vec Ideal S128x128 .f32) (x2 : Vec Ideal S1x128 .f32) (u w : Vec Ideal S8192x128 .f32) (mo : Vec Ideal S1x1 .f32) :
    k0_pay19 x1 x2 u w mo (ix2 0 0)
      = max (mo (ix2 0 0)) (max (Finset.univ.fold max (Ideal.ofBits .f32 0xFF800000#32) fun x : Fin 8192 => k0_pay14 x1 x2 u (ix2 0 x))
          (Finset.univ.fold max (Ideal.ofBits .f32 0xFF800000#32) fun x : Fin 8192 => k0_pay17 x1 x2 w (ix2 0 x))) := by
  pointwise [k0_pay19]

theorem pay4_at (a : FVec Ideal S1x1 .f32) : k0_pay4 a (ix2 0 0) = a (ix2 0 0) := by
  pointwise [k0_pay4]

theorem pay20_at (x1 : Vec Ideal S128x128 .f32) (x2 : Vec Ideal S1x128 .f32) (u w : Vec Ideal S8192x128 .f32) (mo : Vec Ideal S1x1 .f32) :
    k0_pay20 x1 x2 u w mo (ix2 0 0) = Ideal.exp (mo (ix2 0 0) - k0_pay19 x1 x2 u w mo (ix2 0 0)) := by
  pointwise [k0_pay20]

theorem pay2_at (co : FVec Ideal S1x1 .f32) (e : FVec Ideal S16x1 .f32) (lo : Vec Ideal S16x1 .f32) (i : Fin 16) :
    k0_pay2 co e lo (ix2 i 0) = lo (ix2 i 0) * co (ix2 0 0) + e (ix2 i 0) := by
  pointwise [k0_pay2]

theorem pay24_at (j : BitVec 32) (lo hi : IVec S16x1 32) (s s' : FVec Ideal S1x8192 .f32) (mn : FVec Ideal S1x1 .f32) (i : Fin 16) :
    k0_pay24 j lo hi s s' mn (ix2 i 0) = ∑ x : Fin 8192, k0_pay21 j lo hi s mn (ix2 i x) + ∑ x : Fin 8192, k0_pay23 j lo hi s' mn (ix2 i x) := by
  pointwise [k0_pay24]

theorem pay3_at (u : FVec Ideal S8192x128 .bf16) (co : FVec Ideal S1x1 .f32) (a : FVec Ideal S16x128 .f32) (e : FVec Ideal S16x8192 .f32) (ao : Vec Ideal S16x128 .f32) (i : Fin 16) (d : Fin 128) :
    k0_pay3 u co a e ao (ix2 i d) = ao (ix2 i d) * co (ix2 0 0) + (a (ix2 i d) + ∑ x : Fin 8192, e (ix2 i x) * u (ix2 x d)) := by
  pointwise [k0_pay3]

theorem pay22_at (j : BitVec 32) (lo hi : IVec S16x1 32) (u : FVec Ideal S8192x128 .bf16) (s : FVec Ideal S1x8192 .f32) (mn : FVec Ideal S1x1 .f32) (i : Fin 16) (d : Fin 128) :
    k0_pay22 j lo hi u s mn (ix2 i d) = ∑ x : Fin 8192, k0_pay21 j lo hi s mn (ix2 i x) * u (ix2 x d) := by
  pointwise [k0_pay22]

theorem pay13_at (u : Vec Ideal S8192x128 .f32) (x : Fin 8192) (d : Fin 128) : k0_pay13 u (ix2 x d) = u (ix2 x d) := by
  pointwise [k0_pay13]
theorem pay16_at (u : Vec Ideal S8192x128 .f32) (x : Fin 8192) (d : Fin 128) : k0_pay16 u (ix2 x d) = u (ix2 x d) := by
  pointwise [k0_pay16]

theorem pay8_at : k0_pay8 (F := Ideal) (ix2 0 0) = Ideal.ofBits .f32 0xF149F2CA#32 := by
  pointwise [k0_pay8]
theorem pay9_at (i : Fin 16) : k0_pay9 (F := Ideal) (ix2 i 0) = 0 := by
  pointwise [k0_pay9]
theorem pay10_at (i : Fin 16) (d : Fin 128) : k0_pay10 (F := Ideal) (ix2 i d) = 0 := by
  pointwise [k0_pay10]

theorem pay5_at (l : Vec Ideal S16x1 .f32) (i : Fin 16) : k0_pay5 l (ix2 i 0) = if 0 < l (ix2 i 0) then Ideal.div 1 (l (ix2 i 0)) else 0 := by
  pointwise [k0_pay5]

theorem pay7_at (l : Vec Ideal S16x1 .f32) (a : Vec Ideal S16x128 .f32) (i : Fin 16) (d : Fin 128) :
    k0_pay7 l a (ix2 i d) = a (ix2 i d) * k0_pay5 l (ix2 i 0) := by
  pointwise [k0_pay7]

/-! ## The masks -/

/-- The mask of a token word: it lies between the two pointer words. -/
theorem mask_word (w lo hi : BitVec 32) (t : ℕ) (hw : w.toInt = (t : ℤ)) :
    IntOp.andi (IntOp.cmpi .sge w lo) (IntOp.cmpi .slt w hi) = if lo.toInt ≤ (t : ℤ) ∧ (t : ℤ) < hi.toInt then 1#1 else 0#1 := by
  rw [WordCmp.cmpi_sge_eq, WordCmp.cmpi_slt_eq, hw]
  by_cases h1 : lo.toInt ≤ (t : ℤ) <;> by_cases h2 : (t : ℤ) < hi.toInt <;> simp [h1, h2, IntOp.andi]

/-- The word of a token counted from a tile's start and a run's start. -/
theorem token_word (r : Fin 2) (o k : ℕ) (h : r.val * 16384 + o + k < 32768) :
    (IntOp.addi (Scalar.addi (Scalar.muli (BitVec.ofNat 32 r.val) 16384#32) (BitVec.ofNat 32 o)) (BitVec.ofNat 32 k)).toInt
      = ((r.val * 16384 + o + k : ℕ) : ℤ) := by
  have e : IntOp.addi (Scalar.addi (Scalar.muli (BitVec.ofNat 32 r.val) 16384#32) (BitVec.ofNat 32 o)) (BitVec.ofNat 32 k)
      = BitVec.ofNat 32 (r.val * 16384 + o + k) := by
    rw [BitVec.ofNat_add, BitVec.ofNat_add, BitVec.ofNat_mul]
    rfl
  rw [e, StableHlo.Predicate.toInt_ofNat_small _ (by omega)]

theorem token_word' (r : Fin 2) (k : ℕ) (h : r.val * 16384 + k < 32768) :
    (IntOp.addi (Scalar.muli (BitVec.ofNat 32 r.val) 16384#32) (BitVec.ofNat 32 k)).toInt = ((r.val * 16384 + k : ℕ) : ℤ) := by
  have e : IntOp.addi (Scalar.muli (BitVec.ofNat 32 r.val) 16384#32) (BitVec.ofNat 32 k) = BitVec.ofNat 32 (r.val * 16384 + k) := by
    rw [BitVec.ofNat_add, BitVec.ofNat_mul]
    rfl
  rw [e, StableHlo.Predicate.toInt_ofNat_small _ (by omega)]

/-- A masked exponential of the first run of a tile. -/
theorem pay21_at (r : Fin 2) (lo hi : IVec S16x1 32) (s : FVec Ideal S1x8192 .f32) (mn : FVec Ideal S1x1 .f32) (i : Fin 16) (k : Fin 8192) :
    k0_pay21 (BitVec.ofNat 32 r.val) lo hi s mn (ix2 i k)
      = if (lo (ix2 i 0)).toInt ≤ ((r.val * 16384 + k.val : ℕ) : ℤ) ∧ ((r.val * 16384 + k.val : ℕ) : ℤ) < (hi (ix2 i 0)).toInt
          then Ideal.exp (s (ix2 0 k) - mn (ix2 0 0)) else 0 := by
  pointwise [k0_pay21]
  have hw := token_word r 0 k.val (by have := r.isLt; have := k.isLt; omega)
  rw [Nat.add_zero] at hw
  rw [mask_word _ _ _ _ hw]
  by_cases h : (lo (ix2 i 0)).toInt ≤ ((r.val * 16384 + k.val : ℕ) : ℤ) ∧ ((r.val * 16384 + k.val : ℕ) : ℤ) < (hi (ix2 i 0)).toInt
  · rw [if_pos h, if_pos h]; rfl
  · rw [if_neg h, if_neg h]; rfl

/-- A masked exponential of the second run of a tile. -/
theorem pay23_at (r : Fin 2) (lo hi : IVec S16x1 32) (s : FVec Ideal S1x8192 .f32) (mn : FVec Ideal S1x1 .f32) (i : Fin 16) (k : Fin 8192) :
    k0_pay23 (BitVec.ofNat 32 r.val) lo hi s mn (ix2 i k)
      = if (lo (ix2 i 0)).toInt ≤ ((r.val * 16384 + 8192 + k.val : ℕ) : ℤ) ∧ ((r.val * 16384 + 8192 + k.val : ℕ) : ℤ) < (hi (ix2 i 0)).toInt
          then Ideal.exp (s (ix2 0 k) - mn (ix2 0 0)) else 0 := by
  pointwise [k0_pay23]
  rw [mask_word _ _ _ _ (token_word r 8192 k.val (by have := r.isLt; have := k.isLt; omega))]
  by_cases h : (lo (ix2 i 0)).toInt ≤ ((r.val * 16384 + 8192 + k.val : ℕ) : ℤ) ∧ ((r.val * 16384 + 8192 + k.val : ℕ) : ℤ) < (hi (ix2 i 0)).toInt
  · rw [if_pos h, if_pos h]; rfl
  · rw [if_neg h, if_neg h]; rfl

/-- The weights of a tile: the exponential of the score times the inverse sum of the token's segment, picked by the masks. -/
theorem pay6_at (r : Fin 2) (lo hi : IVec S16x1 32) (l : Vec Ideal S16x1 .f32) (s : Vec Ideal S1x16384 .f32) (mn : FVec Ideal S1x1 .f32) (k : Fin 16384) :
    k0_pay6 (BitVec.ofNat 32 r.val) lo hi l s mn (ix3 0 0 k)
      = Ideal.exp (s (ix2 0 k) - mn (ix2 0 0))
        * (∑ i : Fin 16, k0_pay5 l (ix2 i 0)
              * ((if (lo (ix2 i 0)).toInt ≤ ((r.val * 16384 + k.val : ℕ) : ℤ) ∧ ((r.val * 16384 + k.val : ℕ) : ℤ) < (hi (ix2 i 0)).toInt then 1 else 0 : ℝ) : EReal)
          + ∑ i : Fin 16, (k0_pay5 l (ix2 i 0) - k0_pay5 l (ix2 i 0))
              * ((if (lo (ix2 i 0)).toInt ≤ ((r.val * 16384 + k.val : ℕ) : ℤ) ∧ ((r.val * 16384 + k.val : ℕ) : ℤ) < (hi (ix2 i 0)).toInt then 1 else 0 : ℝ) : EReal)) := by
  have key : ∀ i : Fin 16, (FloatOps.sitofp .f32 (BitVec.setWidth 32 (IntOp.andi
      (IntOp.cmpi .sge (IntOp.addi (Scalar.muli (BitVec.ofNat 32 r.val) 16384#32) (BitVec.ofNat 32 k.val)) (lo (ix2 i 0)))
      (IntOp.cmpi .slt (IntOp.addi (Scalar.muli (BitVec.ofNat 32 r.val) 16384#32) (BitVec.ofNat 32 k.val)) (hi (ix2 i 0))))) : Ideal .f32)
      = ((if (lo (ix2 i 0)).toInt ≤ ((r.val * 16384 + k.val : ℕ) : ℤ) ∧ ((r.val * 16384 + k.val : ℕ) : ℤ) < (hi (ix2 i 0)).toInt then 1 else 0 : ℝ) : EReal) := fun i => by
    rw [mask_word _ _ _ _ (token_word' r k.val (by have := r.isLt; have := k.isLt; omega))]
    by_cases h : (lo (ix2 i 0)).toInt ≤ ((r.val * 16384 + k.val : ℕ) : ℤ) ∧ ((r.val * 16384 + k.val : ℕ) : ℤ) < (hi (ix2 i 0)).toInt
    · rw [if_pos h, if_pos h]
      show (((BitVec.setWidth 32 1#1).toInt : ℝ) : EReal) = _
      rw [show (BitVec.setWidth 32 1#1).toInt = 1 from by decide, Int.cast_one]
    · rw [if_neg h, if_neg h]
      show (((BitVec.setWidth 32 0#1).toInt : ℝ) : EReal) = _
      rw [show (BitVec.setWidth 32 0#1).toInt = 0 from by decide, Int.cast_zero]
  pointwise [k0_pay6]
  simp only [key]

end Cert.KernelIdeal.Gen
-- ==== Proof.KVal.lean ====
/- What the kernel returns, in terms of real scores: the sums and pooled rows after both tiles, and the two results. -/
module

public import proofs.«01_k».proof.Proof.KBody
public import proofs.«01_k».proof.Proof.KPay
public import proofs.«01_k».proof.Proof.Spec

@[expose] public section

set_option maxRecDepth 16384

noncomputable section

namespace Cert.KernelIdeal.Gen

open Idealize.ShloMosaic Idealize.SL.Sem Cert.AttnPool

/-- The pointers by number. -/
abbrev ptrF (p : S17.Idx → BitVec 32) : Fin 17 → BitVec 32 := fun k => p (ix1 k)

theorem loW_at (p : S17.Idx → BitVec 32) (i : Fin 16) : loW (F := Ideal) p (ix2 i 0) = ptrF p i.castSucc := by
  fin_cases i <;> (unfold loW; pointwise [k0_pay25]; rfl)

theorem hiW_at (p : S17.Idx → BitVec 32) (i : Fin 16) : hiW (F := Ideal) p (ix2 i 0) = ptrF p i.succ := by
  fin_cases i <;> (unfold hiW; pointwise [k0_pay1, k0_pay26, k0_pay27, k0_pay28]; rfl)

/-- A token's share of a segment's total, every score less `c`. -/
def share (p : Fin 17 → BitVec 32) (s : ℕ → ℝ) (c : ℝ) (i : Fin 16) (t : ℕ) : ℝ := if InSeg p i t then Real.exp (s t - c) else 0

theorem share_shift (p : Fin 17 → BitVec 32) (s : ℕ → ℝ) (c c' : ℝ) (i : Fin 16) (t : ℕ) : share p s c i t * Real.exp (c - c') = share p s c' i t := by
  unfold share
  split
  · rw [← Real.exp_add]; congr 1; ring
  · exact zero_mul _

/-- A tile's blocks hold the rows `H` of its tokens, and their scores are the real numbers `s`. -/
structure TileOf (r : Fin 2) (x0 : Vec Ideal S16384x128 .f32) (x1 : Vec Ideal S128x128 .f32) (x2 : Vec Ideal S1x128 .f32) (s : ℕ → ℝ) (H : ℕ → Fin 128 → EReal) : Prop where
  top : ∀ k : Fin 8192, k0_pay14 x1 x2 (topRows x0) (ix2 0 k) = (s (r.val * 16384 + k.val) : EReal)
  bot : ∀ k : Fin 8192, k0_pay17 x1 x2 (botRows x0) (ix2 0 k) = (s (r.val * 16384 + 8192 + k.val) : EReal)
  topH : ∀ (k : Fin 8192) (d : Fin 128), topRows x0 (ix2 k d) = H (r.val * 16384 + k.val) d
  botH : ∀ (k : Fin 8192) (d : Fin 128), botRows x0 (ix2 k d) = H (r.val * 16384 + 8192 + k.val) d

section
variable {r : Fin 2} {x0 : Vec Ideal S16384x128 .f32} {x1 : Vec Ideal S128x128 .f32} {x2 : Vec Ideal S1x128 .f32} {s : ℕ → ℝ} {H : ℕ → Fin 128 → EReal}

/-- The new maximum is real. -/
theorem TileOf.max_is_real (T : TileOf r x0 x1 x2 s H) (mo : Vec Ideal S1x1 .f32) (hmo : ∃ a : ℝ, mo (ix2 0 0) = (a : EReal)) :
    ∃ M : ℝ, k0_pay19 x1 x2 (topRows x0) (botRows x0) mo (ix2 0 0) = (M : EReal) := by
  rw [pay19_at, ofBits_neg_inf]
  refine max_real hmo (max_lt ?_ ?_).ne
  · refine lt_top_iff_ne_top.2 (fold_max_ne_top _ _ _ bot_ne_top fun x _ => ?_)
    rw [T.top]; exact EReal.coe_ne_top _
  · refine lt_top_iff_ne_top.2 (fold_max_ne_top _ _ _ bot_ne_top fun x _ => ?_)
    rw [T.bot]; exact EReal.coe_ne_top _

theorem exp_sub_real (a b : ℝ) : Ideal.exp ((a : EReal) - (b : EReal)) = (Real.exp (a - b) : EReal) := by
  rw [← EReal.coe_sub]; rfl

theorem TileOf.pay21 (T : TileOf r x0 x1 x2 s H) (p : S17.Idx → BitVec 32) (mn : FVec Ideal S1x1 .f32) (M : ℝ) (hM : mn (ix2 0 0) = (M : EReal)) (i : Fin 16) (k : Fin 8192) :
    k0_pay21 (BitVec.ofNat 32 r.val) (loW (F := Ideal) p) (hiW (F := Ideal) p) (k0_pay14 x1 x2 (topRows x0)) mn (ix2 i k)
      = (share (ptrF p) s M i (r.val * 16384 + k.val) : EReal) := by
  rw [pay21_at, loW_at, hiW_at, T.top, hM, exp_sub_real]
  unfold share
  by_cases h : InSeg (ptrF p) i (r.val * 16384 + k.val)
  · rw [if_pos (show _ ∧ _ from h), if_pos h]
  · rw [if_neg (show ¬(_ ∧ _) from h), if_neg h]; rfl

theorem TileOf.pay23 (T : TileOf r x0 x1 x2 s H) (p : S17.Idx → BitVec 32) (mn : FVec Ideal S1x1 .f32) (M : ℝ) (hM : mn (ix2 0 0) = (M : EReal)) (i : Fin 16) (k : Fin 8192) :
    k0_pay23 (BitVec.ofNat 32 r.val) (loW (F := Ideal) p) (hiW (F := Ideal) p) (k0_pay17 x1 x2 (botRows x0)) mn (ix2 i k)
      = (share (ptrF p) s M i (r.val * 16384 + 8192 + k.val) : EReal) := by
  rw [pay23_at, loW_at, hiW_at, T.bot, hM, exp_sub_real]
  unfold share
  by_cases h : InSeg (ptrF p) i (r.val * 16384 + 8192 + k.val)
  · rw [if_pos (show _ ∧ _ from h), if_pos h]
  · rw [if_neg (show ¬(_ ∧ _) from h), if_neg h]; rfl

/-- The sums after a tile. -/
theorem TileOf.sum_step (T : TileOf r x0 x1 x2 s H) (p : S17.Idx → BitVec 32) (mo : Vec Ideal S1x1 .f32) (lo : Vec Ideal S16x1 .f32) (a M : ℝ)
    (ha : mo (ix2 0 0) = (a : EReal)) (hM : k0_pay19 x1 x2 (topRows x0) (botRows x0) mo (ix2 0 0) = (M : EReal)) (i : Fin 16) :
    sumStep (BitVec.ofNat 32 r.val) p x0 x1 x2 mo lo (ix2 i 0)
      = lo (ix2 i 0) * (Real.exp (a - M) : EReal)
        + (∑ k : Fin 8192, (share (ptrF p) s M i (r.val * 16384 + k.val) : EReal) + ∑ k : Fin 8192, (share (ptrF p) s M i (r.val * 16384 + 8192 + k.val) : EReal)) := by
  unfold sumStep
  rw [pay2_at, pay24_at, pay20_at, ha, hM, exp_sub_real]
  simp only [T.pay21 p _ M hM, T.pay23 p _ M hM]

/-- The pooled rows after a tile. -/
theorem TileOf.acc_step (T : TileOf r x0 x1 x2 s H) (p : S17.Idx → BitVec 32) (mo : Vec Ideal S1x1 .f32) (ao : Vec Ideal S16x128 .f32) (a M : ℝ)
    (ha : mo (ix2 0 0) = (a : EReal)) (hM : k0_pay19 x1 x2 (topRows x0) (botRows x0) mo (ix2 0 0) = (M : EReal)) (i : Fin 16) (d : Fin 128) :
    accStep (BitVec.ofNat 32 r.val) p x0 x1 x2 mo ao (ix2 i d)
      = ao (ix2 i d) * (Real.exp (a - M) : EReal)
        + (∑ k : Fin 8192, (share (ptrF p) s M i (r.val * 16384 + k.val) : EReal) * H (r.val * 16384 + k.val) d
          + ∑ k : Fin 8192, (share (ptrF p) s M i (r.val * 16384 + 8192 + k.val) : EReal) * H (r.val * 16384 + 8192 + k.val) d) := by
  unfold accStep
  rw [pay3_at, pay22_at, pay20_at, ha, hM, exp_sub_real]
  simp only [T.pay21 p _ M hM, T.pay23 p _ M hM, pay13_at, pay16_at, T.topH, T.botH]

end

/-! ## After both tiles -/

theorem first_max_real : ∃ a : ℝ, k0_pay8 (F := Ideal) (ix2 0 0) = (a : EReal) := by
  rw [pay8_at]
  exact ⟨_, show Ideal.ofBits .f32 0xF149F2CA#32 = _ from by simp [Ideal.ofBits, Ideal.ieee, -EReal.coe_mul]; rfl⟩

section
variable {x0 y0 : Vec Ideal S16384x128 .f32} {x1 y1 : Vec Ideal S128x128 .f32} {x2 y2 : Vec Ideal S1x128 .f32} {s : ℕ → ℝ} {H : ℕ → Fin 128 → EReal}

/-- The buffers after both tiles: a real maximum, the segments' totals and their exponentials' weighted sums, all less that maximum. -/
theorem after_tiles (T : TileOf 0 x0 x1 x2 s H) (T' : TileOf 1 y0 y1 y2 s H) (p : S17.Idx → BitVec 32) :
    ∃ M : ℝ, maxStep y0 y1 y2 (maxStep x0 x1 x2 (k0_pay8 (F := Ideal))) (ix2 0 0) = (M : EReal)
      ∧ (∀ i : Fin 16, sumStep (BitVec.ofNat 32 1) p y0 y1 y2 (maxStep x0 x1 x2 (k0_pay8 (F := Ideal))) (sumStep (BitVec.ofNat 32 0) p x0 x1 x2 (k0_pay8 (F := Ideal)) (k0_pay9 (F := Ideal))) (ix2 i 0)
          = (massAt (ptrF p) s M i : EReal))
      ∧ (∀ (i : Fin 16) (d : Fin 128), accStep (BitVec.ofNat 32 1) p y0 y1 y2 (maxStep x0 x1 x2 (k0_pay8 (F := Ideal))) (accStep (BitVec.ofNat 32 0) p x0 x1 x2 (k0_pay8 (F := Ideal)) (k0_pay10 (F := Ideal))) (ix2 i d)
          = ∑ t ∈ Finset.range 32768, (share (ptrF p) s M i t : EReal) * H t d) := by
  obtain ⟨a, ha⟩ := first_max_real
  obtain ⟨M, hM⟩ := T.max_is_real (k0_pay8 (F := Ideal)) ⟨a, ha⟩
  have hM' : maxStep x0 x1 x2 (k0_pay8 (F := Ideal)) (ix2 0 0) = (M : EReal) := (pay4_at _).trans hM
  obtain ⟨N, hN⟩ := T'.max_is_real (maxStep x0 x1 x2 (k0_pay8 (F := Ideal))) ⟨M, hM'⟩
  refine ⟨N, (pay4_at _).trans hN, fun i => ?_, fun i d => ?_⟩
  · have e1 := T.sum_step p (k0_pay8 (F := Ideal)) (k0_pay9 (F := Ideal)) a M ha hM i
    have e2 := T'.sum_step p (maxStep x0 x1 x2 (k0_pay8 (F := Ideal))) (sumStep (BitVec.ofNat 32 0) p x0 x1 x2 (k0_pay8 (F := Ideal)) (k0_pay9 (F := Ideal))) M N hM' hN i
    refine e2.trans ?_
    rw [show sumStep (BitVec.ofNat 32 0) p x0 x1 x2 (k0_pay8 (F := Ideal)) (k0_pay9 (F := Ideal)) (ix2 i 0) = _ from e1, pay9_at, zero_mul, zero_add]
    rw [← coe_sum, ← coe_sum, ← coe_sum, ← coe_sum, ← EReal.coe_add, ← EReal.coe_add, ← EReal.coe_mul, ← EReal.coe_add]
    refine congrArg _ ?_
    unfold massAt
    rw [sum_runs, add_mul, Finset.sum_mul, Finset.sum_mul]
    simp only [share_shift]
    simp only [share, Fin.val_zero, Fin.val_one, zero_mul, zero_add, one_mul]
  · have e1 := T.acc_step p (k0_pay8 (F := Ideal)) (k0_pay10 (F := Ideal)) a M ha hM i d
    have e2 := T'.acc_step p (maxStep x0 x1 x2 (k0_pay8 (F := Ideal))) (accStep (BitVec.ofNat 32 0) p x0 x1 x2 (k0_pay8 (F := Ideal)) (k0_pay10 (F := Ideal))) M N hM' hN i d
    refine e2.trans ?_
    rw [show accStep (BitVec.ofNat 32 0) p x0 x1 x2 (k0_pay8 (F := Ideal)) (k0_pay10 (F := Ideal)) (ix2 i d) = _ from e1, pay10_at, zero_mul, zero_add]
    rw [EReal.right_distrib_of_nonneg_of_ne_top (EReal.coe_nonneg.2 (Real.exp_pos _).le) (EReal.coe_ne_top _),
      sum_scaled _ _ _ _ (Real.exp_pos _).le, sum_scaled _ _ _ _ (Real.exp_pos _).le]
    simp only [share_shift]
    rw [sum_runs]
    simp only [Fin.val_zero, Fin.val_one, zero_mul, zero_add, one_mul]

end

/-! ## The two results -/

/-- The inverse of a segment's total, zero where the total is. -/
def inv (x : ℝ) : ℝ := if 0 < x then 1 / x else 0

theorem inv_nonneg (x : ℝ) : 0 ≤ inv x := by unfold inv; split; exacts [by positivity, le_rfl]

theorem pay5_real (l : Vec Ideal S16x1 .f32) (i : Fin 16) (x : ℝ) (hx : l (ix2 i 0) = (x : EReal)) : k0_pay5 l (ix2 i 0) = (inv x : EReal) := by
  rw [pay5_at, hx]
  unfold inv
  by_cases h : 0 < x
  · rw [if_pos (EReal.coe_pos.2 h), if_pos h]
    unfold Ideal.div
    rw [if_neg (EReal.coe_ne_zero.2 h.ne'), one_mul, ← EReal.coe_inv, one_div]
  · rw [if_neg (fun h' => h (EReal.coe_pos.1 h')), if_neg h]
    exact EReal.coe_zero.symm

/-- The weights of a tile. -/
theorem alpha_at {p : S17.Idx → BitVec 32} (hp : Cuts (ptrF p)) (s : ℕ → ℝ) (M : ℝ) (l : Vec Ideal S16x1 .f32) (mn : Vec Ideal S1x1 .f32) (sr : Vec Ideal S1x16384 .f32) (r : Fin 2)
    (hl : ∀ i : Fin 16, l (ix2 i 0) = (massAt (ptrF p) s M i : EReal)) (hm : mn (ix2 0 0) = (M : EReal))
    (hs : ∀ k : Fin 16384, sr (ix2 0 k) = (s (r.val * 16384 + k.val) : EReal)) (k : Fin 16384) :
    k0_pay6 (BitVec.ofNat 32 r.val) (loW (F := Ideal) p) (hiW (F := Ideal) p) l sr mn (ix3 0 0 k) = (weight (ptrF p) s (r.val * 16384 + k.val) : EReal) := by
  rw [pay6_at, hs, hm, exp_sub_real]
  simp only [loW_at, hiW_at, pay5_real l _ _ (hl _), ← EReal.coe_sub, sub_self, ← EReal.coe_mul, zero_mul, ← coe_sum, ← EReal.coe_add, Finset.sum_const_zero, add_zero]
  refine congrArg _ ?_
  have ht : r.val * 16384 + k.val < 32768 := by have := r.isLt; have := k.isLt; omega
  generalize r.val * 16384 + k.val = t at ht ⊢
  obtain ⟨i, hi⟩ := hp.exists_seg ht
  rw [weight_shift hp s M hi, Finset.sum_eq_single i]
  · rw [if_pos (show _ ∧ _ from hi), mul_one, inv, if_pos (massAt_pos _ s M ht hi), mul_one_div]
  · intro b _ hb
    rw [if_neg (show ¬(_ ∧ _) from fun hb' => hb (hp.unique hb' hi)), mul_zero]
  · exact fun h => absurd (Finset.mem_univ i) h

/-- The pooled rows. -/
theorem hfile_at {p : S17.Idx → BitVec 32} (hp : Cuts (ptrF p)) (s : ℕ → ℝ) (H : ℕ → Fin 128 → EReal) (M : ℝ) (l : Vec Ideal S16x1 .f32) (a : Vec Ideal S16x128 .f32)
    (hl : ∀ i : Fin 16, l (ix2 i 0) = (massAt (ptrF p) s M i : EReal))
    (ha : ∀ (i : Fin 16) (d : Fin 128), a (ix2 i d) = ∑ t ∈ Finset.range 32768, (share (ptrF p) s M i t : EReal) * H t d) (i : Fin 16) (d : Fin 128) :
    k0_pay7 l a (ix2 i d) = pooled (ptrF p) s H i d := by
  rw [pay7_at, pay5_real l _ _ (hl _), ha, sum_scaled _ _ _ _ (inv_nonneg _)]
  unfold pooled
  refine Finset.sum_congr rfl fun t ht => ?_
  refine congrArg (fun x : ℝ => (x : EReal) * H t d) ?_
  unfold share
  split
  · next h => rw [weight_shift hp s M h, inv, if_pos (massAt_pos _ s M (Finset.mem_range.1 ht) h), mul_one_div]
  · exact zero_mul _

end Cert.KernelIdeal.Gen
-- ==== Proof.KIdeal.lean ====
/- What the kernel's blocks hold of its arguments, and its two results in terms of the arguments. -/
module

public import proofs.«01_k».proof.Proof.KRun
public import proofs.«01_k».proof.Proof.KVal
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.SL.Sem Cert.AttnPool

variable (m : (ℓ : Loc nD τ sig) → Buf (Elt Ideal) ℓ)

/-- The arguments on a device. -/
abbrev rowsA (c : Dev nD) : Vec Ideal S32768x128 .f32 := m ((c : Thread nD τ).loc main_arg0)
abbrev ptrA (c : Dev nD) : IVec S17 32 := m ((c : Thread nD τ).loc main_arg1)
abbrev weightsA (c : Dev nD) : Vec Ideal S128x128 .f32 := m ((c : Thread nD τ).loc main_arg2)
abbrev contextA (c : Dev nD) : Vec Ideal S128 .f32 := m ((c : Thread nD τ).loc main_arg4)

theorem ptrs_eq (c : Dev nD) : ptrs m = ptrA m c := by
  obtain rfl : c = 0 := Subsingleton.elim _ _
  unfold ptrs tbl
  exact V_main_arg1 m 0

/-- The blocks' numbers: the tile's in the first phase, the whole array otherwise. -/
theorem index0 (hO : Ok m) : ∀ t : Fin (cfgM m hO).N, t.val < 2 → ((cfgM m hO).win 0).index t = ![t.val, 0] := by
  have h : ∀ t : Fin grid0.N, t.val < 2 → cc0_transform_0 (grid0.coords t) = ![t.val, 0] := by decide
  exact h
theorem index1 (hO : Ok m) : ∀ t : Fin (cfgM m hO).N, ((cfgM m hO).win 1).index t = ![0, 0] := by
  have h : ∀ t : Fin grid0.N, cc0_transform_1 (grid0.coords t) = ![0, 0] := by decide
  exact h
theorem index2 (hO : Ok m) : ∀ t : Fin (cfgM m hO).N, ((cfgM m hO).win 2).index t = ![0, 0] := by
  have h : ∀ t : Fin grid0.N, cc0_transform_2 (grid0.coords t) = ![0, 0] := by decide
  exact h

theorem emb0 (hO : Ok m) (t : Fin (cfgM m hO).N) (ht : t.val < 2) (k : Fin 16384) (d : Fin 128) :
    (((cfgM m hO).win 0).rect t).emb (ix2 k d : S16384x128.Idx) = (ix2 ⟨t.val * 16384 + k.val, by omega⟩ d : S32768x128.Idx) := by
  funext b
  apply Fin.ext
  refine (((cfgM m hO).win 0).rect_emb_val _ _ b).trans ?_
  rw [index0 m hO t ht]
  revert b
  refine Fin.forall_fin_two.mpr ⟨?_, ?_⟩
  · rfl
  · show 0 * 128 + d.val = d.val
    omega
theorem emb1 (hO : Ok m) (t : Fin (cfgM m hO).N) (d e : Fin 128) : (((cfgM m hO).win 1).rect t).emb (ix2 d e : S128x128.Idx) = (ix2 d e : S128x128.Idx) := by
  funext b
  apply Fin.ext
  refine (((cfgM m hO).win 1).rect_emb_val _ _ b).trans ?_
  rw [index1 m hO t]
  revert b
  refine Fin.forall_fin_two.mpr ⟨?_, ?_⟩
  · show 0 * 128 + d.val = d.val
    omega
  · show 0 * 128 + e.val = e.val
    omega
theorem emb2 (hO : Ok m) (t : Fin (cfgM m hO).N) (d : Fin 128) : (((cfgM m hO).win 2).rect t).emb (ix2 0 d : S1x128.Idx) = (ix2 0 d : S1x128.Idx) := by
  funext b
  apply Fin.ext
  refine (((cfgM m hO).win 2).rect_emb_val _ _ b).trans ?_
  rw [index2 m hO t]
  revert b
  refine Fin.forall_fin_two.mpr ⟨?_, ?_⟩
  · rfl
  · show 0 * 128 + d.val = d.val
    omega

theorem xW_eq (hO : Ok m) (c : Dev nD) (t : Fin (cfgM m hO).N) (d e : Fin 128) : xW m hO c t (ix2 d e) = weightsA m c (ix2 d e) := by
  unfold xW
  refine (congrArg (V m c main_arg2) (congrArg (fun z => ((cfgM m hO).win 1).arr.view.emb z) (emb1 m hO t d e))).trans ?_
  exact congrFun (V_main_arg2 m c) _

theorem context_read (c : Dev nD) (d : Fin 128) : (V m c main_v0 : Vec Ideal S1x128 .f32) (ix2 0 d) = contextA m c (ix1 d) := by
  entry_read
  pointwise

theorem xC_eq (hO : Ok m) (c : Dev nD) (t : Fin (cfgM m hO).N) (d : Fin 128) : xC m hO c t (ix2 0 d) = contextA m c (ix1 d) := by
  unfold xC
  refine (congrArg (V m c main_v0) (congrArg (fun z => ((cfgM m hO).win 2).arr.view.emb z) (emb2 m hO t d))).trans ?_
  exact context_read m c d

theorem xH_eq (hO : Ok m) (c : Dev nD) (t : Fin (cfgM m hO).N) (ht : t.val < 2) (k : Fin 16384) (d : Fin 128) :
    xH m hO c t (ix2 k d) = rowsA m c (ix2 ⟨t.val * 16384 + k.val, by omega⟩ d) := by
  unfold xH
  refine (congrArg (V m c main_arg0) (congrArg (fun z => ((cfgM m hO).win 0).arr.view.emb z) (emb0 m hO t ht k d))).trans ?_
  exact congrFun (V_main_arg0 m c) _

/-- The two halves of a tile. -/
theorem topRows_at (x0 : Vec Ideal S16384x128 .f32) (k : Fin 8192) (d : Fin 128) : topRows x0 (ix2 k d) = x0 (ix2 ⟨k.val, by omega⟩ d) := by
  refine congrArg x0 (funext (Fin.forall_fin_two.mpr ⟨Fin.ext ?_, Fin.ext ?_⟩))
  · show 0 + 1 * k.val = k.val
    omega
  · show 0 + 1 * d.val = d.val
    omega
theorem botRows_at (x0 : Vec Ideal S16384x128 .f32) (k : Fin 8192) (d : Fin 128) : botRows x0 (ix2 k d) = x0 (ix2 ⟨8192 + k.val, by omega⟩ d) := by
  refine congrArg x0 (funext (Fin.forall_fin_two.mpr ⟨Fin.ext ?_, Fin.ext ?_⟩))
  · show 8192 + 1 * k.val = 8192 + k.val
    omega
  · show 0 + 1 * d.val = d.val
    omega

/-- The tokens' rows, their scores and the pointers, of the arguments. -/
abbrev rowsK (c : Dev nD) : Fin 32768 → Fin 128 → EReal := fun t d => rowsA m c (ix2 t d)
abbrev scoreK (c : Dev nD) : ℕ → ℝ := scoreOf (rowsK m c) (fun d e => weightsA m c (ix2 d e)) (fun d => contextA m c (ix1 d))

theorem tile_of (hO : Ok m) (c : Dev nD) (hc : ∀ d : Fin 128, contextA m c (ix1 d) ≠ ⊥ ∧ contextA m c (ix1 d) ≠ ⊤)
    (t : Fin (cfgM m hO).N) (r : Fin 2) (ht : t.val = r.val) : TileOf r (xH m hO c t) (xW m hO c t) (xC m hO c t) (scoreK m c) (rowOf (rowsK m c)) := by
  have ht2 : t.val < 2 := by omega
  have e1 : ∀ (k : Fin 8192) (d : Fin 128), topRows (xH m hO c t) (ix2 k d) = rowsK m c ⟨r.val * 16384 + k.val, by omega⟩ d := fun k d => by
    rw [topRows_at]
    refine (xH_eq m hO c t ht2 _ d).trans ?_
    exact congrArg (fun z => rowsK m c z d) (Fin.ext (by show t.val * 16384 + k.val = _; rw [ht]))
  have e2 : ∀ (k : Fin 8192) (d : Fin 128), botRows (xH m hO c t) (ix2 k d) = rowsK m c ⟨r.val * 16384 + 8192 + k.val, by omega⟩ d := fun k d => by
    rw [botRows_at]
    refine (xH_eq m hO c t ht2 _ d).trans ?_
    exact congrArg (fun z => rowsK m c z d) (Fin.ext (show t.val * 16384 + (8192 + k.val) = r.val * 16384 + 8192 + k.val by omega))
  refine ⟨fun k => ?_, fun k => ?_, fun k d => ?_, fun k d => ?_⟩
  · rw [pay14_at, scoreOf_coe _ _ _ hc _ (by omega : r.val * 16384 + k.val < 32768)]
    simp only [xC_eq, xW_eq, e1]
  · rw [pay17_at, scoreOf_coe _ _ _ hc _ (by omega : r.val * 16384 + 8192 + k.val < 32768)]
    simp only [xC_eq, xW_eq, e2]
  · rw [e1, rowOf_lt _ _ (by omega : r.val * 16384 + k.val < 32768)]
  · rw [e2, rowOf_lt _ _ (by omega : r.val * 16384 + 8192 + k.val < 32768)]

theorem row_of_tile {r : Fin 2} {x0 : Vec Ideal S16384x128 .f32} {x1 : Vec Ideal S128x128 .f32} {x2 : Vec Ideal S1x128 .f32} {s : ℕ → ℝ} {H : ℕ → Fin 128 → EReal}
    (T : TileOf r x0 x1 x2 s H) (k : Fin 16384) : scoreRow x0 x1 x2 (ix2 0 k) = (s (r.val * 16384 + k.val) : EReal) := by
  by_cases h : k.val < 8192
  · rw [scoreRow_lt _ _ _ _ h, pay15_at, T.top]
  · rw [scoreRow_ge _ _ _ _ h, pay18_at, T.bot]
    exact congrArg (fun z => ((s z : ℝ) : EReal)) (show r.val * 16384 + 8192 + (k.val - 8192) = r.val * 16384 + k.val by omega)

theorem jw_eq (hO : Ok m) (t : Fin (cfgM m hO).N) (ht : t.val < 2) : jw m hO t = BitVec.ofNat 32 t.val := by
  unfold jw
  exact congrArg (BitVec.ofNat 32) ((coord1 t).trans (Nat.mod_eq_of_lt ht))

/-- The kernel's two results. -/
theorem results (hO : Ok m) (c : Dev nD) (hp : Cuts (ptrF (ptrA m c))) (hc : ∀ d : Fin 128, contextA m c (ix1 d) ≠ ⊥ ∧ contextA m c (ix1 d) ≠ ⊤) :
    (∀ (i : Fin 16) (d : Fin 128), hOut m hO c (ix2 i d) = pooled (ptrF (ptrA m c)) (scoreK m c) (rowOf (rowsK m c)) i d)
    ∧ ∀ (r : Fin 2) (k : Fin 16384), alphaOut m hO c r (ix3 0 0 k) = (weight (ptrF (ptrA m c)) (scoreK m c) (r.val * 16384 + k.val) : EReal) := by
  have T0 := tile_of m hO c hc (pt m hO 0 (by decide)) 0 rfl
  have T1 := tile_of m hO c hc (pt m hO 1 (by decide)) 1 rfl
  have j0 : jw m hO (pt m hO 0 (by decide)) = BitVec.ofNat 32 0 := jw_eq m hO _ (by show 0 < 2; omega)
  have j1 : jw m hO (pt m hO 1 (by decide)) = BitVec.ofNat 32 1 := jw_eq m hO _ (by show 1 < 2; omega)
  obtain ⟨M, hM, hl, ha⟩ := after_tiles T0 T1 (ptrA m c)
  have hl' : ∀ i : Fin 16, sum2 m hO c (ix2 i 0) = (massAt (ptrF (ptrA m c)) (scoreK m c) M i : EReal) := fun i => by
    unfold sum2 sum1 max1
    rw [j0, j1, ptrs_eq m c]
    exact hl i
  have ha' : ∀ (i : Fin 16) (d : Fin 128), acc2 m hO c (ix2 i d) = ∑ t ∈ Finset.range 32768, (share (ptrF (ptrA m c)) (scoreK m c) M i t : EReal) * rowOf (rowsK m c) t d := fun i d => by
    unfold acc2 acc1 max1
    rw [j0, j1, ptrs_eq m c]
    exact ha i d
  have hM' : max2 m hO c (ix2 0 0) = (M : EReal) := by
    unfold max2 max1
    exact hM
  have hrow : ∀ (r : Fin 2) (k : Fin 16384), tileRow m hO c r (ix2 0 k) = (scoreK m c (r.val * 16384 + k.val) : EReal) := by
    refine Fin.forall_fin_two.mpr ⟨fun k => ?_, fun k => ?_⟩
    · rw [tileRow_0]; exact row_of_tile T0 k
    · rw [tileRow_1]; exact row_of_tile T1 k
  refine ⟨fun i d => ?_, fun r k => ?_⟩
  · unfold hOut
    exact hfile_at hp _ _ M _ _ hl' ha' i d
  · unfold alphaOut
    rw [ptrs_eq m c]
    exact alpha_at hp _ M _ _ _ r hl' hM' (hrow r) k
-- ==== Proof.RStage.lean ====
/- The reference's results in stages, each a function of the stages before it. -/
module

public import proofs.«01_k».proof.Proof.Gen.ReferenceIdeal.Run

@[expose] public section

set_option maxRecDepth 16384

noncomputable section

namespace Cert.AttnPool.Ref

open Cert.ReferenceIdeal Cert.ReferenceIdeal.Gen Idealize.ShloMosaic Idealize.ShloMosaic.TcCoe Idealize.SL.Sem

variable {F : FTy → Type} [FloatOps F]

/-- One bit for every token and pointer: the pointer is at most the token. -/
def atMost (p : IVec S17 32) : IVec S32768x17 1 :=
  cmpi .sle (broadcastInDim S32768x17 ![0, 1] bcast_S1x17_S32768x17_0_1 (broadcastInDim S1x17 ![1] bcast_S17_S1x17_1 p))
    (broadcastInDim S32768x17 ![0, 1] bcast_S32768x1_S32768x17_0_1 (broadcastInDim S32768x1 ![0] bcast_S32768_S32768x1_0 (iotaInDim S32768 32 0)))
/-- How many pointers are at most the token. -/
def countV (p : IVec S17 32) : IVec S32768 32 :=
  Host.reduce IntOp.addi (extui 32 (atMost p) natLt_1_32) (constantI S_ 32 0#32) reducesTo_S32768x17_S32768_d1 h_S_
/-- Each token's segment. -/
def segV (p : IVec S17 32) : IVec S32768 32 := subi (countV p) (broadcastInDim S32768 ![] bcast_S_S32768 (constantI S_ 32 1#32))
/-- Each token's score. -/
def scoreV (x : FVec F S32768x128 .f32) (w : FVec F S128x128 .f32) (b cx : FVec F S128 .f32) : FVec F S32768 .f32 :=
  Host.dotGeneral dot_S32768x128_S128_S32768_1_0_0_n_n_n none
    (Host.tanh (addf (Host.dotGeneral dot_S32768x128_S128x128_S32768x128_1_0_0_1_n_n none x (transpose S128x128 [1, 0] w transposes_S128x128_S128x128_1_0))
      (broadcastInDim S32768x128 ![0, 1] bcast_S1x128_S32768x128_0_1 (broadcastInDim S1x128 ![1] bcast_S128_S1x128_1 b)))) cx
/-- The largest score of each segment, as the reduction gives it. -/
def rawMax (sg : IVec S32768 32) (sc : FVec F S32768 .f32) : FVec F S16 .f32 :=
  Host.reduce FloatOps.maximumf (select (cmpi .eq (broadcastInDim S16x32768 ![0, 1] bcast_S1x32768_S16x32768_0_1 (broadcastInDim S1x32768 ![1] bcast_S32768_S1x32768_1 sg))
      (broadcastInDim S16x32768 ![0, 1] bcast_S16x1_S16x32768_0_1 (broadcastInDim S16x1 ![0] bcast_S16_S16x1_0 (iotaInDim S16 32 0))))
    (broadcastInDim S16x32768 ![0, 1] bcast_S1x32768_S16x32768_0_1 (broadcastInDim S1x32768 ![1] bcast_S32768_S1x32768_1 sc))
    (broadcastInDim S16x32768 ![] bcast_S_S16x32768 (constant S_ .f32 0xFF800000#32))) (constant S_ .f32 0xFF800000#32) reducesTo_S16x32768_S16_d1 h_S_
/-- A vector with zero in place of its infinite entries. -/
def guarded (v : FVec F S16 .f32) : FVec F S16 .f32 :=
  select (andi (cmpf .ogt v (broadcastInDim S16 ![] bcast_S_S16 (constant S_ .f32 0xFF800000#32))) (cmpf .olt v (broadcastInDim S16 ![] bcast_S_S16 (constant S_ .f32 0x7F800000#32))))
    v (broadcastInDim S16 ![] bcast_S_S16 (constant S_ .f32 0x00000000#32))
/-- The segments as indices, counted from the end where negative. -/
def wrapV (sg : IVec S32768 32) : IVec S32768x1 32 :=
  broadcastInDim S32768x1 ![0] bcast_S32768_S32768x1_0 (select (cmpi .slt sg (broadcastInDim S32768 ![] bcast_S_S32768 (constantI S_ 32 0#32)))
    (addi sg (broadcastInDim S32768 ![] bcast_S_S32768 (constantI S_ 32 16#32))) sg)
/-- The segments as a column. -/
def colV (sg : IVec S32768 32) : IVec S32768x1 32 := broadcastInDim S32768x1 ![0] bcast_S32768_S32768x1_0 sg
/-- Each token's entry of a vector over the segments. -/
def takeV (v : FVec F S16 .f32) (sg : IVec S32768 32) : FVec F S32768 .f32 := Host.gather gather_S16_S32768x1_S32768_n_0_n_n_0_1_1 v (wrapV sg)
/-- Each token's exponential, its segment's constant taken off first. -/
def expV (c : FVec F S16 .f32) (sg : IVec S32768 32) (sc : FVec F S32768 .f32) : FVec F S32768 .f32 := Host.exp (subf sc (takeV c sg))
/-- The segments' sums. -/
def sumV (sg : IVec S32768 32) (ex : FVec F S32768 .f32) : FVec F S16 .f32 :=
  Host.scatterAdd scatter_S16_S32768x1_S32768_n_0_0_1 (broadcastInDim S16 ![] bcast_S_S16 (constant S_ .f32 0x00000000#32)) (colV sg) ex
/-- Each token's exponential over its segment's sum. -/
def alphaV (sg : IVec S32768 32) (ex : FVec F S32768 .f32) : FVec F S32768 .f32 := Host.divf ex (takeV (sumV sg ex) sg)
/-- The tokens' rows, each times its weight. -/
def scaledV (al : FVec F S32768 .f32) (x : FVec F S32768x128 .f32) : FVec F S32768x128 .f32 :=
  mulf (broadcastInDim S32768x128 ![0, 1] bcast_S32768x1_S32768x128_0_1 (broadcastInDim S32768x1 ![0] bcast_S32768_S32768x1_0 al)) x
/-- The segments' pooled rows. -/
def pooledV (sg : IVec S32768 32) (u : FVec F S32768x128 .f32) : FVec F S16x128 .f32 :=
  Host.scatterAdd scatter_S16x128_S32768x1_S32768x128_1_0_0_1 (broadcastInDim S16x128 ![] bcast_S_S16x128 (constant S_ .f32 0x00000000#32)) (colV sg) u

variable (m : (ℓ : Loc nD τ sig) → Buf (Elt F) ℓ) (c : Dev nD)

/-- The stages at the arguments of a launch. -/
def segM : IVec S32768 32 := segV (m ((c.tc : Thread nD τ).loc main_arg1))
def scoreM : FVec F S32768 .f32 := scoreV (m ((c.tc : Thread nD τ).loc main_arg0)) (m ((c.tc : Thread nD τ).loc main_arg2)) (m ((c.tc : Thread nD τ).loc main_arg3)) (m ((c.tc : Thread nD τ).loc main_arg4))
def alphaM : FVec F S32768 .f32 := alphaV (segM m c) (expV (guarded (rawMax (segM m c) (scoreM m c))) (segM m c) (scoreM m c))

theorem out_alpha : Value.res_main_v58 m c = shapeCast S2x1x16384 (alphaM m c) shapeCasts_S32768_S2x1x16384 := by
  unfold Value.res_main_v58 alphaM alphaV sumV expV takeV wrapV colV guarded rawMax scoreM scoreV segM segV countV atMost
  rfl

theorem out_pooled : Value.res_main_v57 m c = pooledV (segM m c) (scaledV (alphaM m c) (m ((c.tc : Thread nD τ).loc main_arg0))) := by
  unfold Value.res_main_v57 pooledV scaledV alphaM alphaV sumV expV takeV wrapV colV guarded rawMax scoreM scoreV segM segV countV atMost
  rfl

end Cert.AttnPool.Ref
-- ==== Proof.RSeg.lean ====
/- The reference's scores and segments at each token, and how it gathers from and adds into the segments. -/
module

public import proofs.«01_k».proof.Proof.RStage
public import proofs.«01_k».proof.Proof.Spec
public import Idealize.ShloMosaic.Lib.Pointwise
public import Idealize.ShloMosaic.Lib.WordCmp
public import Idealize.ShloMosaic.Lib.Routing.Ops
public import Idealize.ShloMosaic.Lib.Routing.OpsSet
public import Idealize.ShloMosaic.Lib.Routing.OpsPair
public import Idealize.ShloMosaic.Lib.StableHlo.Predicate

@[expose] public section

set_option maxRecDepth 16384

noncomputable section

namespace Cert.AttnPool.Ref

open Cert.ReferenceIdeal Cert.ReferenceIdeal.Gen Idealize.ShloMosaic Cert.AttnPool

/-- A token's score, the bias zero. -/
theorem scoreV_at (x : FVec Ideal S32768x128 .f32) (w : FVec Ideal S128x128 .f32) (b cx : FVec Ideal S128 .f32) (hb : ∀ d : Fin 128, b (ix1 d) = 0)
    (hc : ∀ d : Fin 128, cx (ix1 d) ≠ ⊥ ∧ cx (ix1 d) ≠ ⊤) (t : Fin 32768) :
    scoreV x w b cx (ix1 t) = (scoreOf (fun t d => x (ix2 t d)) (fun d e => w (ix2 d e)) (fun d => cx (ix1 d)) t.val : EReal) := by
  rw [scoreOf_coe _ _ _ hc t.val t.isLt]
  pointwise [scoreV]
  refine Finset.sum_congr rfl fun d _ => ?_
  rw [hb, add_zero, mul_comm]
  refine congrArg (fun z => cx (ix1 d) * Ideal.tanh z) (Finset.sum_congr rfl fun e _ => mul_comm _ _)

/-- The bit of a token and a pointer. -/
theorem atMost_at (p : IVec S17 32) (t : Fin 32768) (q : Fin 17) : atMost p (ix2 t q) = 1#1 ↔ (p (ix1 q)).toInt ≤ (t.val : ℤ) := by
  pointwise [atMost]
  rw [WordCmp.cmpi_sle_eq, StableHlo.Predicate.toInt_ofNat_small t.val (by omega)]
  by_cases h : (p (ix1 q)).toInt ≤ (t.val : ℤ)
  · simp [h]
  · simp [h]

theorem count_upto (i : Fin 16) : Nat.count (fun q => q ≤ i.val) 17 = i.val + 1 := by
  revert i
  decide

/-- A token's segment. -/
theorem segV_at (p : IVec S17 32) (hp : Cuts (fun k => p (ix1 k))) (t : Fin 32768) (i : Fin 16) (h : InSeg (fun k => p (ix1 k)) i t.val) :
    segV p (ix1 t) = BitVec.ofNat 32 i.val := by
  have hQ : ∀ q : Fin 17, atMost p (ValueIdx.ix2 t q) = 1#1 ↔ q.val ≤ i.val := fun q => by
    rw [← ix2_eq_valueIdx, atMost_at]
    constructor
    · intro hq
      by_contra hn
      have : (p (ix1 i.succ)).toInt ≤ (p (ix1 q)).toInt := hp.mono (show i.succ ≤ q by rw [Fin.le_def, Fin.val_succ]; omega)
      have h2 : (t.val : ℤ) < (p (ix1 i.succ)).toInt := h.2
      omega
    · intro hq
      exact (hp.mono (show q ≤ i.castSucc by rw [Fin.le_def, Fin.val_castSucc]; exact hq)).trans h.1
  have e : countV p (ix1 t) = BitVec.ofNat 32 (i.val + 1) := by
    rw [← count_upto i, ix1_eq_valueIdx]
    exact Routing.reduce_count (by decide) (atMost p) natLt_1_32 reducesTo_S32768x17_S32768_d1 h_S_ t (fun q => q ≤ i.val) hQ
  unfold segV
  pointwise
  rw [e]
  have : ∀ i : Fin 16, IntOp.subi (BitVec.ofNat 32 (i.val + 1)) 1#32 = BitVec.ofNat 32 i.val := by decide
  exact this i

/-- What a gather reads at a token of segment `i`. -/
theorem takeV_at (v : FVec Ideal S16 .f32) (sg : IVec S32768 32) (t : Fin 32768) (i : Fin 16) (h : sg (ix1 t) = BitVec.ofNat 32 i.val) :
    takeV v sg (ix1 t) = v (ix1 i) := by
  unfold takeV
  rw [ix1_eq_valueIdx, ix1_eq_valueIdx]
  refine Routing.gather_take1 _ rfl rfl rfl rfl v (wrapV sg) t i ?_ (by decide)
  rw [← ix2_eq_valueIdx]
  pointwise [wrapV]
  rw [h]
  have : ∀ i : Fin 16, Scalar.select (IntOp.cmpi .slt (BitVec.ofNat 32 i.val) 0#32) (IntOp.addi (BitVec.ofNat 32 i.val) 16#32) (BitVec.ofNat 32 i.val) = BitVec.ofNat 32 i.val := by decide
  exact this i

theorem colV_at (sg : IVec S32768 32) (t : Fin 32768) : colV sg (ix2 t 0) = sg (ix1 t) := by
  pointwise [colV]

/-- An update lands in the segment its token's word names. -/
theorem lands1 (idx : IVec S32768x1 32) (t : Fin 32768) (i : Fin 16) :
    scatter_S16_S32768x1_S32768_n_0_0_1.resultIdx? (ix1 t) idx = some (ix1 i) ↔ (idx (ix2 t 0)).toInt = (i.val : ℤ) := by
  have hs : scatter_S16_S32768x1_S32768_n_0_0_1.start (ix1 t) idx 0 = (idx (ix2 t 0)).toInt := by
    unfold ScatterDims.start
    rw [dif_pos (by decide)]
    refine congrArg (fun z => (idx z).toInt) (funext (Fin.forall_fin_two.mpr ⟨?_, ?_⟩))
    · rfl
    · rfl
  have hw : scatter_S16_S32768x1_S32768_n_0_0_1.window (ix1 t) 0 = 0 := by
    unfold ScatterDims.window
    exact dif_neg (by decide)
  rw [ix1_eq_valueIdx i]
  refine (Routing.resultIdx?_ix1 _ _ _ _).trans ?_
  rw [hs, hw]
  simp

theorem lands2 (idx : IVec S32768x1 32) (t : Fin 32768) (e : Fin 128) (i : Fin 16) (d : Fin 128) :
    scatter_S16x128_S32768x1_S32768x128_1_0_0_1.resultIdx? (ix2 t e) idx = some (ix2 i d) ↔ (idx (ix2 t 0)).toInt = (i.val : ℤ) ∧ e = d := by
  have hs : scatter_S16x128_S32768x1_S32768x128_1_0_0_1.start (ix2 t e) idx 0 = (idx (ix2 t 0)).toInt := by
    unfold ScatterDims.start
    rw [dif_pos (by decide)]
    refine congrArg (fun z => (idx z).toInt) (funext (Fin.forall_fin_two.mpr ⟨?_, ?_⟩))
    · rfl
    · rfl
  have hs1 : scatter_S16x128_S32768x1_S32768x128_1_0_0_1.start (ix2 t e) idx 1 = 0 := by
    unfold ScatterDims.start
    exact dif_neg (by decide)
  have hw : scatter_S16x128_S32768x1_S32768x128_1_0_0_1.window (ix2 t e) 0 = 0 := by
    unfold ScatterDims.window
    exact dif_neg (by decide)
  have hw1 : scatter_S16x128_S32768x1_S32768x128_1_0_0_1.window (ix2 t e) 1 = e.val := by
    unfold ScatterDims.window
    rw [dif_pos (by decide)]
    rfl
  rw [ix2_eq_valueIdx i d]
  refine (Routing.resultIdx?_ix2 _ _ _ _ _).trans ?_
  rw [hs, hw, hs1, hw1, Fin.ext_iff]
  omega

end Cert.AttnPool.Ref
-- ==== Proof.RIdeal.lean ====
/- The reference's two results in terms of its arguments. -/
module

public import proofs.«01_k».proof.Proof.RSeg

@[expose] public section

set_option maxRecDepth 16384

noncomputable section

namespace Cert.AttnPool.Ref

open Cert.ReferenceIdeal Cert.ReferenceIdeal.Gen Idealize.ShloMosaic Idealize.ShloMosaic.TcCoe Idealize.SL.Sem Cert.AttnPool

/-- The constant taken off a segment's scores is real. -/
theorem guarded_real (v : FVec Ideal S16 .f32) (i : Fin 16) : ∃ r : ℝ, guarded v (ix1 i) = (r : EReal) := by
  pointwise [guarded]
  generalize (v (ix1 i) : EReal) = y
  rw [ofBits_neg_inf, ofBits_inf]
  induction y using EReal.rec with
  | bot => exact ⟨0, by simp [Scalar.select, IntOp.andi]⟩
  | coe y => exact ⟨y, by simp [Scalar.select, IntOp.andi]⟩
  | top => exact ⟨0, by simp [Scalar.select, IntOp.andi]⟩

theorem sumV_at (sg : IVec S32768 32) (ex : FVec Ideal S32768 .f32) (i : Fin 16) :
    sumV sg ex (ix1 i) = ∑ t : Fin 32768, if (sg (ix1 t)).toInt = (i.val : ℤ) then ex (ix1 t) else 0 := by
  have z : (broadcastInDim S16 ![] bcast_S_S16 (constant (F := Ideal) S_ .f32 0x00000000#32)) (ix1 i) = (0 : EReal) := by pointwise
  refine (show sumV sg ex (ix1 i) = _ + ∑ j ∈ Finset.univ.filter (fun j => scatter_S16_S32768x1_S32768_n_0_0_1.resultIdx? j (colV sg) = some (ix1 i)), ex j from rfl).trans ?_
  rw [z, zero_add, Finset.sum_filter, sum_idx1]
  refine Finset.sum_congr rfl fun t _ => ?_
  exact if_congr ((lands1 _ _ _).trans (by rw [colV_at])) rfl rfl

theorem pooledV_at (sg : IVec S32768 32) (u : FVec Ideal S32768x128 .f32) (i : Fin 16) (d : Fin 128) :
    pooledV sg u (ix2 i d) = ∑ t : Fin 32768, if (sg (ix1 t)).toInt = (i.val : ℤ) then u (ix2 t d) else 0 := by
  have z : (broadcastInDim S16x128 ![] bcast_S_S16x128 (constant (F := Ideal) S_ .f32 0x00000000#32)) (ix2 i d) = (0 : EReal) := by pointwise
  refine (show pooledV sg u (ix2 i d) = _ + ∑ j ∈ Finset.univ.filter (fun j => scatter_S16x128_S32768x1_S32768x128_1_0_0_1.resultIdx? j (colV sg) = some (ix2 i d)), u j from rfl).trans ?_
  rw [z, zero_add, Finset.sum_filter, sum_idx2]
  refine Finset.sum_congr rfl fun t _ => ?_
  refine (Finset.sum_congr rfl fun e _ => if_congr ((lands2 _ _ _ _ _).trans (by rw [colV_at])) rfl rfl).trans ?_
  by_cases h : (sg (ix1 t)).toInt = (i.val : ℤ)
  · simp only [h, true_and, if_true]
    rw [Finset.sum_ite_eq' Finset.univ d fun e => u (ix2 t e), if_pos (Finset.mem_univ _)]
  · simp only [h, false_and, if_false, Finset.sum_const_zero]

theorem divf_at (x y : FVec Ideal S32768 .f32) (j : S32768.Idx) : Host.divf x y j = Ideal.div (x j) (y j) := rfl

theorem scaledV_at (al : FVec Ideal S32768 .f32) (x : FVec Ideal S32768x128 .f32) (t : Fin 32768) (d : Fin 128) : scaledV al x (ix2 t d) = al (ix1 t) * x (ix2 t d) := by
  pointwise [scaledV]

section
variable {p : IVec S17 32} (hp : Cuts (fun k => p (ix1 k)))
include hp

/-- A token's word names a segment exactly when the token lies in it. -/
theorem seg_iff (t : Fin 32768) (i : Fin 16) : (segV p (ix1 t)).toInt = (i.val : ℤ) ↔ InSeg (fun k => p (ix1 k)) i t.val := by
  obtain ⟨a, ha⟩ := hp.exists_seg t.isLt
  rw [segV_at p hp t a ha, StableHlo.Predicate.toInt_ofNat_small a.val (by omega)]
  constructor
  · intro h
    obtain rfl : a = i := Fin.ext (by omega)
    exact ha
  · intro h
    rw [hp.unique ha h]

variable {sc : FVec Ideal S32768 .f32} {s : ℕ → ℝ} (hs : ∀ t : Fin 32768, sc (ix1 t) = (s t.val : EReal)) {v : FVec Ideal S16 .f32} {c : Fin 16 → ℝ} (hv : ∀ i : Fin 16, v (ix1 i) = (c i : EReal))
include hs hv

theorem expV_at (t : Fin 32768) (i : Fin 16) (h : InSeg (fun k => p (ix1 k)) i t.val) : expV v (segV p) sc (ix1 t) = (Real.exp (s t.val - c i) : EReal) := by
  refine (show expV v (segV p) sc (ix1 t) = Ideal.exp (sc (ix1 t) - takeV v (segV p) (ix1 t)) from rfl).trans ?_
  rw [takeV_at v _ t i (segV_at p hp t i h), hs, hv, ← EReal.coe_sub]
  rfl

theorem sums_at (i : Fin 16) : sumV (segV p) (expV v (segV p) sc) (ix1 i) = (massAt (fun k => p (ix1 k)) s (c i) i : EReal) := by
  rw [sumV_at]
  unfold massAt
  rw [coe_sum, Finset.sum_range]
  refine Finset.sum_congr rfl fun t _ => ?_
  by_cases h : InSeg (fun k => p (ix1 k)) i t.val
  · rw [if_pos ((seg_iff hp t i).2 h), if_pos h, expV_at hp hs hv t i h]
  · rw [if_neg (mt (seg_iff hp t i).1 h), if_neg h, EReal.coe_zero]

/-- A token's weight. -/
theorem alphaV_at (t : Fin 32768) : alphaV (segV p) (expV v (segV p) sc) (ix1 t) = (weight (fun k => p (ix1 k)) s t.val : EReal) := by
  obtain ⟨i, h⟩ := hp.exists_seg t.isLt
  refine (divf_at _ _ _).trans ?_
  rw [takeV_at _ _ t i (segV_at p hp t i h), sums_at hp hs hv, expV_at hp hs hv t i h, weight_shift hp s (c i) h]
  have hpos := massAt_pos (fun k => p (ix1 k)) s (c i) t.isLt h
  unfold Ideal.div
  rw [if_neg (by rw [EReal.coe_eq_zero]; exact hpos.ne'), ← EReal.coe_inv, ← EReal.coe_mul, div_eq_mul_inv]

/-- A segment's pooled row. -/
theorem pooled_at (x : FVec Ideal S32768x128 .f32) (i : Fin 16) (d : Fin 128) :
    pooledV (segV p) (scaledV (alphaV (segV p) (expV v (segV p) sc)) x) (ix2 i d)
      = pooled (fun k => p (ix1 k)) s (rowOf fun t d => x (ix2 t d)) i d := by
  rw [pooledV_at]
  unfold pooled
  rw [Finset.sum_range]
  refine Finset.sum_congr rfl fun t _ => ?_
  rw [rowOf_lt _ _ t.isLt]
  have e : scaledV (alphaV (segV p) (expV v (segV p) sc)) x (ix2 t d) = (weight (fun k => p (ix1 k)) s t.val : EReal) * x (ix2 t d) := by
    rw [scaledV_at, alphaV_at hp hs hv t]
  by_cases h : InSeg (fun k => p (ix1 k)) i t.val
  · rw [if_pos ((seg_iff hp t i).2 h), if_pos h, e]
  · rw [if_neg (mt (seg_iff hp t i).1 h), if_neg h, EReal.coe_zero, zero_mul]

end

variable (m : (ℓ : Loc nD τ sig) → Buf (Elt Ideal) ℓ) (c : Dev nD)

/-- The arguments on a device. -/
abbrev rowsR : FVec Ideal S32768x128 .f32 := m ((c.tc : Thread nD τ).loc main_arg0)
abbrev ptrR : IVec S17 32 := m ((c.tc : Thread nD τ).loc main_arg1)
abbrev weightsR : FVec Ideal S128x128 .f32 := m ((c.tc : Thread nD τ).loc main_arg2)
abbrev biasR : FVec Ideal S128 .f32 := m ((c.tc : Thread nD τ).loc main_arg3)
abbrev contextR : FVec Ideal S128 .f32 := m ((c.tc : Thread nD τ).loc main_arg4)
/-- The tokens' scores of the arguments. -/
abbrev scoreR : ℕ → ℝ := scoreOf (fun t d => rowsR m c (ix2 t d)) (fun d e => weightsR m c (ix2 d e)) (fun d => contextR m c (ix1 d))

/-- The reference's two results. -/
theorem results (hp : Cuts (fun k => ptrR m c (ix1 k))) (hb : ∀ d : Fin 128, biasR m c (ix1 d) = 0) (hc : ∀ d : Fin 128, contextR m c (ix1 d) ≠ ⊥ ∧ contextR m c (ix1 d) ≠ ⊤) :
    (∀ (i : Fin 16) (d : Fin 128), (Value.res_main_v57 m c : FVec Ideal S16x128 .f32) (ix2 i d) = pooled (fun k => ptrR m c (ix1 k)) (scoreR m c) (rowOf fun t d => rowsR m c (ix2 t d)) i d)
    ∧ ∀ (r : Fin 2) (k : Fin 16384), (Value.res_main_v58 m c : FVec Ideal S2x1x16384 .f32) (ix3 r 0 k) = (weight (fun k => ptrR m c (ix1 k)) (scoreR m c) (r.val * 16384 + k.val) : EReal) := by
  have hs : ∀ t : Fin 32768, scoreM m c (ix1 t) = (scoreR m c t.val : EReal) := fun t => scoreV_at _ _ _ _ hb hc t
  choose g hg using guarded_real (rawMax (segM m c) (scoreM m c))
  refine ⟨fun i d => ?_, fun r k => ?_⟩
  · rw [out_pooled]
    exact pooled_at hp hs hg _ i d
  · rw [out_alpha]
    have e : (shapeCast S2x1x16384 (alphaM m c) shapeCasts_S32768_S2x1x16384 : FVec Ideal S2x1x16384 .f32) (ix3 r 0 k) = alphaM m c (ix1 ⟨r.val * 16384 + k.val, by omega⟩) := by
      generalize alphaM m c = al
      pointwise
    exact e.trans (alphaV_at hp hs hg _)

end Cert.AttnPool.Ref
-- ==== Proof.PreFacts.lean ====
/- What the precondition says of the arguments. -/
module

public import proofs.«01_k».proof.Pre_pre
public import proofs.«01_k».proof.Proof.Spec
public import Idealize.ShloMosaic.Lib.Pointwise
public import Idealize.ShloMosaic.Lib.ReduceAll
public import Idealize.ShloMosaic.Lib.WordCmp

@[expose] public section

set_option maxRecDepth 16384

noncomputable section

namespace Cert.AttnPool

open Idealize.ShloMosaic Cert.Pre_pre

theorem pre_facts [Cert.Pre_pre.Facts] (x : FVec Ideal S32768x128 .f32) (p : IVec S17 32) (w : FVec Ideal S128x128 .f32) (b cx : FVec Ideal S128 .f32)
    (h : Cert.Pre_pre.fn (F := Ideal) x p w b cx = fun _ => 1#1) :
    Cuts (fun k => p (ix1 k)) ∧ (∀ d : Fin 128, b (ix1 d) = 0) ∧ ∀ d : Fin 128, cx (ix1 d) ≠ ⊥ ∧ cx (ix1 d) ≠ ⊤ := by
  have : Subsingleton S_.Idx := ⟨fun a b => funext fun z => z.elim0⟩
  have h0 := congrFun h ix0
  unfold fn fn_part1 at h0
  obtain ⟨h1, hctx⟩ := IntOp.andi_eq_one.1 h0
  obtain ⟨h2, hb⟩ := IntOp.andi_eq_one.1 h1
  obtain ⟨h3, hst⟩ := IntOp.andi_eq_one.1 h2
  obtain ⟨hf, hl⟩ := IntOp.andi_eq_one.1 h3
  have ofBool_one : ∀ P : Prop, ∀ [Decidable P], BitVec.ofBool (decide P) = 1#1 → P := fun P _ e => by
    by_contra hn
    rw [decide_eq_false hn] at e
    exact absurd e (by decide)
  refine ⟨⟨?_, ?_, fun i => ?_⟩, fun d => ?_, fun d => ?_⟩
  · revert hf
    pointwise
    rw [WordCmp.cmpi_eq_eq]
    exact ofBool_one _
  · revert hl
    pointwise
    rw [WordCmp.cmpi_eq_eq]
    exact ofBool_one _
  · have e := Host.reduce_andi_all _ _ _ _ _ hst (ix1 i)
    revert e
    pointwise
    rw [WordCmp.cmpi_sle_eq]
    intro e
    refine (ofBool_one _ e).trans (le_of_eq (congrArg (fun z : Fin 17 => (p (ix1 z)).toInt) (Fin.ext ?_)))
    show 1 + i.val = i.val + 1
    omega
  · have e := Host.reduce_andi_all _ _ _ _ _ hb (ix1 d)
    revert e
    pointwise
    exact ofBool_one _
  · have e := Host.reduce_andi_all _ _ _ _ _ hctx (ix1 d)
    revert e
    pointwise
    intro e
    obtain ⟨e1, e2⟩ := IntOp.andi_eq_one.1 e
    have f1 := ofBool_one _ e1
    have f2 := ofBool_one _ e2
    rw [ofBits_neg_inf] at f1
    rw [ofBits_inf] at f2
    exact ⟨f1.ne', f2.ne⟩

end Cert.AttnPool
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_pre
public import proofs.«01_k».proof.Proof.Same
public import proofs.«01_k».proof.Proof.KIdeal
public import proofs.«01_k».proof.Proof.RIdeal
public import proofs.«01_k».proof.Proof.PreFacts
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.AttnPool

/-- The kernel's frame: its program and the idealized one are the same text, so the run of the latter, at bits, is its
    run too. -/
theorem frame_kernel : Cert.quiescent_Kernel := by
  intro m g _
  rw [same_defs, same_main]
  exact (θ_run Cert.KernelIdeal.defs _ _).mono (fun r h => h.2) (Cert.KernelIdeal.Gen.run_values (F := Bits) m g trivial)

/-- The idealized kernel's frame: its run, read at the arguments. -/
theorem frame_ideal : Cert.quiescent_KernelIdeal := fun m g _ =>
  (θ_run Cert.KernelIdeal.defs _ _).mono (fun r h => h.2) (Cert.KernelIdeal.Gen.run_values (F := Ideal) m g trivial)

/-- The idealized reference's frame: its run, read at the arguments; it has no semaphore. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Both results agree under the precondition. -/
theorem agree : Cert.algebraic_KernelIdeal_ReferenceIdeal_pre_pre := fun m g m' g' hpre hargs => by
  have hk : ∀ c : Dev Cert.KernelIdeal.nD, _ := fun c => pre_facts _ _ _ _ _ (hpre c)
  have K : ∀ c : Dev Cert.KernelIdeal.nD, _ := fun c => Cert.KernelIdeal.Gen.results m trivial c (hk c).1 (hk c).2.2
  have R : ∀ c : Dev Cert.KernelIdeal.nD,
      (∀ (i : Fin 16) (d : Fin 128), (Cert.ReferenceIdeal.Value.res_main_v57 m' c : FVec Ideal Cert.ReferenceIdeal.S16x128 .f32) (ix2 i d) = Cert.KernelIdeal.Gen.hOut m trivial c (ix2 i d))
      ∧ ∀ (r : Fin 2) (k : Fin 16384), (Cert.ReferenceIdeal.Value.res_main_v58 m' c : FVec Ideal Cert.ReferenceIdeal.S2x1x16384 .f32) (ix3 r 0 k) = Cert.KernelIdeal.Gen.alphaOut m trivial c r (ix3 0 0 k) := fun c => by
    obtain ⟨a0, a1, a2, a3, a4⟩ := hargs c
    have e0 : Ref.rowsR m' c = Cert.KernelIdeal.Gen.rowsA m c := a0
    have e1 : Ref.ptrR m' c = Cert.KernelIdeal.Gen.ptrA m c := a1
    have e2 : Ref.weightsR m' c = Cert.KernelIdeal.Gen.weightsA m c := a2
    have e3 : Ref.biasR m' c = m ((c.tc : Thread Cert.KernelIdeal.nD Cert.KernelIdeal.τ).loc Cert.KernelIdeal.main_arg3) := a3
    have e4 : Ref.contextR m' c = Cert.KernelIdeal.Gen.contextA m c := a4
    have r := Ref.results m' c (by rw [e1]; exact (hk c).1) (by rw [e3]; exact (hk c).2.1) (by rw [e4]; exact (hk c).2.2)
    have k := K c
    unfold Ref.scoreR at r
    rw [e0, e1, e2, e4] at r
    exact ⟨fun i d => (r.1 i d).trans (k.1 i d).symm, fun a b => (r.2 a b).trans (k.2 a b).symm⟩
  refine ⟨fun c => Cert.KernelIdeal.Gen.hOut m trivial c, fun c j => Cert.KernelIdeal.Gen.alphaOut m trivial c (j 0) (ix3 0 0 (j 2)), ?_, ?_⟩
  · refine (θ_run Cert.KernelIdeal.defs _ _).mono (fun r h c => ⟨funext fun j => (h.1 c).1 j, funext fun j => ?_, h.2.1 c⟩) (Cert.KernelIdeal.Gen.run_values (F := Ideal) m g trivial)
    have hj : j = (ix3 (j 0) 0 (j 2) : Cert.KernelIdeal.S2x1x16384.Idx) := funext (Fin.forall_fin_succ.mpr ⟨rfl, Fin.forall_fin_succ.mpr ⟨Subsingleton.elim (α := Fin 1) _ _, Fin.forall_fin_succ.mpr ⟨rfl, fun z => z.elim0⟩⟩⟩)
    exact (congrArg (r.2.mem ((c.tc : Thread Cert.KernelIdeal.nD Cert.KernelIdeal.τ).loc Cert.KernelIdeal.main_v1_1)) hj).trans ((h.1 c).2 (j 0) (j 2))
  · refine (θ_run Cert.ReferenceIdeal.defs _ _).mono (fun r h c => ⟨(h c).1.trans (funext fun j => ?_), (h c).2.1.trans (funext fun j => ?_), (h c).2.2⟩) (Cert.ReferenceIdeal.Value.run (F := Ideal) m' g')
    · have hj : j = (ix2 (j 0) (j 1) : Cert.ReferenceIdeal.S16x128.Idx) := funext (Fin.forall_fin_two.mpr ⟨rfl, rfl⟩)
      exact (congrArg (Cert.ReferenceIdeal.Value.res_main_v57 m' c) hj).trans (((R c).1 (j 0) (j 1)).trans (congrArg (Cert.KernelIdeal.Gen.hOut m trivial c) hj.symm))
    · have hj : j = (ix3 (j 0) 0 (j 2) : Cert.ReferenceIdeal.S2x1x16384.Idx) := funext (Fin.forall_fin_succ.mpr ⟨rfl, Fin.forall_fin_succ.mpr ⟨Subsingleton.elim (α := Fin 1) _ _, Fin.forall_fin_succ.mpr ⟨rfl, fun z => z.elim0⟩⟩⟩)
      exact (congrArg (Cert.ReferenceIdeal.Value.res_main_v58 m' c) hj).trans ((R c).2 (j 0) (j 2))

theorem claim : Cert.Claim :=
  ⟨Cert.Kernel.Gen.facts, Cert.KernelIdeal.Gen.facts, Cert.ReferenceIdeal.Gen.facts, Cert.Pre_pre.Gen.facts,
    frame_kernel, frame_ideal, fun m g _ => frame_ideal m g trivial, frame_reference, fun m g _ => frame_reference m g trivial, trivial, agree⟩

end Cert.Proof

end
